-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_registers [hPre_finite_registers : Cert.Pre_finite_registers.Facts] (m : (ℓ : Loc Cert.KernelIdeal.nD Cert.KernelIdeal.τ Cert.KernelIdeal.sig) → Buf (Elt Ideal) ℓ) : Prop :=
  ∀ c : Dev Cert.KernelIdeal.nD,
    (Cert.Pre_finite_registers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_registers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_registers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_registers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_registers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_registers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_registers [hPre_finite_registers : Cert.Pre_finite_registers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_registers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_registers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_registers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_registers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_registers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_registers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_registers [hKernelIdeal : Cert.KernelIdeal.Facts] [hPre_finite_registers : Cert.Pre_finite_registers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_registers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_registers [hReferenceIdeal : Cert.ReferenceIdeal.Facts] [hPre_finite_registers : Cert.Pre_finite_registers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_registers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_registers [hKernelIdeal : Cert.KernelIdeal.Facts] [hReferenceIdeal : Cert.ReferenceIdeal.Facts] [hPre_finite_registers : Cert.Pre_finite_registers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_registers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_registers : Cert.Pre_finite_registers.Facts),
    quiescent_Kernel (hKernel := hKernel)
    ∧ quiescent_KernelIdeal (hKernelIdeal := hKernelIdeal)
    ∧ quiescent_KernelIdeal_pre_finite_registers (hKernelIdeal := hKernelIdeal) (hPre_finite_registers := hPre_finite_registers)
    ∧ quiescent_ReferenceIdeal (hReferenceIdeal := hReferenceIdeal)
    ∧ quiescent_ReferenceIdeal_pre_finite_registers (hReferenceIdeal := hReferenceIdeal) (hPre_finite_registers := hPre_finite_registers)
    ∧ preserves_Kernel_KernelIdeal
    ∧ algebraic_KernelIdeal_ReferenceIdeal_pre_finite_registers (hKernelIdeal := hKernelIdeal) (hReferenceIdeal := hReferenceIdeal) (hPre_finite_registers := hPre_finite_registers)
-- ==== Pre_finite_registers.lean ====
abbrev S256x32x5 : Shape := ⟨3, ![256, 32, 5]⟩
abbrev S256x64x1024 : Shape := ⟨3, ![256, 64, 1024]⟩
abbrev S256x32x1x1024 : Shape := ⟨4, ![256, 32, 1, 1024]⟩
abbrev S256x32x1 : Shape := ⟨3, ![256, 32, 1]⟩
abbrev S1024 : Shape := ⟨1, ![1024]⟩
abbrev S1024x1024 : Shape := ⟨2, ![1024, 1024]⟩
abbrev S_ : Shape := ⟨0, ![]⟩

class Facts : Prop where
  slices_S256x32x5_S256x32x1_0_0_0 : S256x32x5.Slices ![0, 0, 0] S256x32x1
  bcast_S_S256x32x1 : S_.BroadcastsInDim S256x32x1 (![] : Fin 0 → Fin S256x32x1.rank)
  bcast_S_S256x64x1024 : S_.BroadcastsInDim S256x64x1024 (![] : Fin 0 → Fin S256x64x1024.rank)
  bcast_S_S256x32x1x1024 : S_.BroadcastsInDim S256x32x1x1024 (![] : Fin 0 → Fin S256x32x1x1024.rank)
  bcast_S_S1024 : S_.BroadcastsInDim S1024 (![] : Fin 0 → Fin S1024.rank)

variable [Facts]

def fn_part1 {F : FTy → Type} [FloatOps F] (main_v3 : IVec S256x32x1 1) (main_v6 : IVec S256x64x1024 1) (main_v9 : IVec S256x32x1x1024 1) (main_v12 : IVec S256x32x1 1) (main_v15 : IVec S1024 1) (main_v16 : FVec F S1024 .f32) (main_v17 : FVec F S1024 .f32) : IVec S256x32x1 1 × IVec S256x64x1024 1 × IVec S256x32x1x1024 1 × IVec S256x32x1 1 × IVec S1024 1 × IVec S1024 1 :=
  let main_v18 : IVec S1024 1 := cmpf .olt main_v16 main_v17
  (main_v3, main_v6, main_v9, main_v12, main_v15, main_v18)

def fn {F : FTy → Type} [FloatOps F] (main_arg0 : FVec F S256x32x5 .f32) (main_arg1 : FVec F S256x64x1024 .f32) (main_arg2 : FVec F S256x32x1x1024 .f32) (main_arg3 : FVec F S256x64x1024 .f32) (main_arg4 : FVec F S256x32x1 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024 .f32) (main_arg16 : FVec F S1024 .f32) : IVec S256x32x1 1 × IVec S256x64x1024 1 × IVec S256x32x1x1024 1 × IVec S256x32x1 1 × IVec S1024 1 × IVec S1024 1 :=
  let main_v0 : FVec F S256x32x1 .f32 := (extractStridedSlice S256x32x1 ![0, 0, 0] · slices_S256x32x5_S256x32x1_0_0_0) main_arg0
  let main_v1 : FVec F S256x32x1 .f32 := Host.absf main_v0
  let main_cst : FVec F S_ .f32 := constant S_ .f32 0x7F800000#32
  let main_v2 : FVec F S256x32x1 .f32 := broadcastInDim S256x32x1 ![] bcast_S_S256x32x1 main_cst
  let main_v3 : IVec S256x32x1 1 := cmpf .olt main_v1 main_v2
  let main_v4 : FVec F S256x64x1024 .f32 := Host.absf main_arg1
  let main_cst_0 : FVec F S_ .f32 := constant S_ .f32 0x7F800000#32
  let main_v5 : FVec F S256x64x1024 .f32 := broadcastInDim S256x64x1024 ![] bcast_S_S256x64x1024 main_cst_0
  let main_v6 : IVec S256x64x1024 1 := cmpf .olt main_v4 main_v5
  let main_v7 : FVec F S256x32x1x1024 .f32 := Host.absf main_arg2
  let main_cst_1 : FVec F S_ .f32 := constant S_ .f32 0x7F800000#32
  let main_v8 : FVec F S256x32x1x1024 .f32 := broadcastInDim S256x32x1x1024 ![] bcast_S_S256x32x1x1024 main_cst_1
  let main_v9 : IVec S256x32x1x1024 1 := cmpf .olt main_v7 main_v8
  let main_v10 : FVec F S256x32x1 .f32 := Host.absf main_arg4
  let main_cst_2 : FVec F S_ .f32 := constant S_ .f32 0x7F800000#32
  let main_v11 : FVec F S256x32x1 .f32 := broadcastInDim S256x32x1 ![] bcast_S_S256x32x1 main_cst_2
  let main_v12 : IVec S256x32x1 1 := cmpf .olt main_v10 main_v11
  let main_v13 : FVec F S1024 .f32 := Host.absf main_arg15
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S1024 .f32 := Host.absf main_arg16
  let main_cst_4 : FVec F S_ .f32 := constant S_ .f32 0x7F800000#32
  let main_v17 : FVec F S1024 .f32 := broadcastInDim S1024 ![] bcast_S_S1024 main_cst_4
  fn_part1 (F := F) main_v3 main_v6 main_v9 main_v12 main_v15 main_v16 main_v17
-- ==== Kernel.lean ====
abbrev S256x32x5 : Shape := ⟨3, ![256, 32, 5]⟩
abbrev S256x64x1024 : Shape := ⟨3, ![256, 64, 1024]⟩
abbrev S256x32x1x1024 : Shape := ⟨4, ![256, 32, 1, 1024]⟩
abbrev S256x32x1 : Shape := ⟨3, ![256, 32, 1]⟩
abbrev S1024 : Shape := ⟨1, ![1024]⟩
abbrev S1024x1024 : Shape := ⟨2, ![1024, 1024]⟩
abbrev S_ : Shape := ⟨0, ![]⟩
abbrev S256x32x2 : Shape := ⟨3, ![256, 32, 2]⟩
abbrev S256x32x8 : Shape := ⟨3, ![256, 32, 8]⟩
abbrev S256x32x2x1024 : Shape := ⟨4, ![256, 32, 2, 1024]⟩
abbrev S1024x64x16 : Shape := ⟨3, ![1024, 64, 16]⟩
abbrev S1024x16x64 : Shape := ⟨3, ![1024, 16, 64]⟩
abbrev S64x16 : Shape := ⟨2, ![64, 16]⟩
abbrev S16x64 : Shape := ⟨2, ![16, 64]⟩
abbrev S1x1024 : Shape := ⟨2, ![1, 1024]⟩
abbrev S64x16x1024 : Shape := ⟨3, ![64, 16, 1024]⟩
abbrev S16x64x1024 : Shape := ⟨3, ![16, 64, 1024]⟩
abbrev S32x32x8 : Shape := ⟨3, ![32, 32, 8]⟩
abbrev S32x64x1024 : Shape := ⟨3, ![32, 64, 1024]⟩
abbrev S32x1x1x1024 : Shape := ⟨4, ![32, 1, 1, 1024]⟩
abbrev S32x1x2x1024 : Shape := ⟨4, ![32, 1, 2, 1024]⟩
abbrev S2048x1024 : Shape := ⟨2, ![2048, 1024]⟩
abbrev S32x2x1024 : Shape := ⟨3, ![32, 2, 1024]⟩
abbrev S32x1x1024 : Shape := ⟨3, ![32, 1, 1024]⟩
abbrev S32x3x1024 : Shape := ⟨3, ![32, 3, 1024]⟩
abbrev S96x1024 : Shape := ⟨2, ![96, 1024]⟩
abbrev S2048x96 : Shape := ⟨2, ![2048, 96]⟩
abbrev S2048 : Shape := ⟨1, ![2048]⟩
abbrev S2048x1 : Shape := ⟨2, ![2048, 1]⟩
abbrev S2048x3 : Shape := ⟨2, ![2048, 3]⟩
abbrev S32x64x3 : Shape := ⟨3, ![32, 64, 3]⟩
abbrev S32x3 : Shape := ⟨2, ![32, 3]⟩
abbrev S32x1x3 : Shape := ⟨3, ![32, 1, 3]⟩
abbrev S2048x64 : Shape := ⟨2, ![2048, 64]⟩
abbrev S64x1024 : Shape := ⟨2, ![64, 1024]⟩
abbrev S32x2 : Shape := ⟨2, ![32, 2]⟩
abbrev S32x2x1 : Shape := ⟨3, ![32, 2, 1]⟩
abbrev S32x1024 : Shape := ⟨2, ![32, 1024]⟩
abbrev S32x512 : Shape := ⟨2, ![32, 512]⟩
abbrev S32x256 : Shape := ⟨2, ![32, 256]⟩
abbrev S32x768 : Shape := ⟨2, ![32, 768]⟩
abbrev S32x128 : Shape := ⟨2, ![32, 128]⟩
abbrev S32x896 : Shape := ⟨2, ![32, 896]⟩
abbrev S32x64 : Shape := ⟨2, ![32, 64]⟩
abbrev S32x960 : Shape := ⟨2, ![32, 960]⟩
abbrev S32x1x64 : Shape := ⟨3, ![32, 1, 64]⟩
abbrev S32x16x64 : Shape := ⟨3, ![32, 16, 64]⟩
abbrev S32x192 : Shape := ⟨2, ![32, 192]⟩
abbrev S32x832 : Shape := ⟨2, ![32, 832]⟩
abbrev S32x320 : Shape := ⟨2, ![32, 320]⟩
abbrev S32x704 : Shape := ⟨2, ![32, 704]⟩
abbrev S32x384 : Shape := ⟨2, ![32, 384]⟩
abbrev S32x640 : Shape := ⟨2, ![32, 640]⟩
abbrev S32x448 : Shape := ⟨2, ![32, 448]⟩
abbrev S32x576 : Shape := ⟨2, ![32, 576]⟩
abbrev S32x1x8 : Shape := ⟨3, ![32, 1, 8]⟩
abbrev S32x8 : Shape := ⟨2, ![32, 8]⟩
abbrev S32x1 : Shape := ⟨2, ![32, 1]⟩
abbrev S32 : Shape := ⟨1, ![32]⟩
abbrev S32x64x1 : Shape := ⟨3, ![32, 64, 1]⟩
abbrev S32x1x1 : Shape := ⟨3, ![32, 1, 1]⟩

abbrev nBuf : Space → Nat
  | .hbm => 44
  | .vmem => 22
  | .smem => 0
  | _ => 0

abbrev bufTy : (tb : Table) → Fin (tcTables nBuf tb) → BufTy
  | .hbm, ⟨0, _⟩ => ⟨S256x32x5, .f32⟩
  | .hbm, ⟨1, _⟩ => ⟨S256x64x1024, .f32⟩
  | .hbm, ⟨2, _⟩ => ⟨S256x32x1x1024, .f32⟩
  | .hbm, ⟨3, _⟩ => ⟨S256x64x1024, .f32⟩
  | .hbm, ⟨4, _⟩ => ⟨S256x32x1, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S256x32x2, .f32⟩
  | .hbm, ⟨19, _⟩ => ⟨S256x32x8, .f32⟩
  | .hbm, ⟨20, _⟩ => ⟨S256x32x2x1024, .f32⟩
  | .hbm, ⟨21, _⟩ => ⟨S1024x64x16, .f32⟩
  | .hbm, ⟨22, _⟩ => ⟨S1024x16x64, .f32⟩
  | .hbm, ⟨23, _⟩ => ⟨S1024x1024, .f32⟩
  | .hbm, ⟨24, _⟩ => ⟨S1024x64x16, .f32⟩
  | .hbm, ⟨25, _⟩ => ⟨S1024x16x64, .f32⟩
  | .hbm, ⟨26, _⟩ => ⟨S1024x1024, .f32⟩
  | .hbm, ⟨27, _⟩ => ⟨S64x16, .f32⟩
  | .hbm, ⟨28, _⟩ => ⟨S16x64, .f32⟩
  | .hbm, ⟨29, _⟩ => ⟨S1x1024, .f32⟩
  | .hbm, ⟨30, _⟩ => ⟨S64x16, .f32⟩
  | .hbm, ⟨31, _⟩ => ⟨S16x64, .f32⟩
  | .hbm, ⟨32, _⟩ => ⟨S1x1024, .f32⟩
  | .hbm, ⟨33, _⟩ => ⟨S64x16x1024, .f32⟩
  | .hbm, ⟨34, _⟩ => ⟨S16x64x1024, .f32⟩
  | .hbm, ⟨35, _⟩ => ⟨S1024x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S256x64x1024, .f32⟩
  | .local _ .vmem, ⟨0, _⟩ => ⟨S32x32x8, .f32⟩
  | .local _ .vmem, ⟨1, _⟩ => ⟨S32x32x8, .f32⟩
  | .local _ .vmem, ⟨2, _⟩ => ⟨S32x64x1024, .f32⟩
  | .local _ .vmem, ⟨3, _⟩ => ⟨S32x64x1024, .f32⟩
  | .local _ .vmem, ⟨4, _⟩ => ⟨S32x1x1x1024, .f32⟩
  | .local _ .vmem, ⟨5, _⟩ => ⟨S32x1x1x1024, .f32⟩
  | .local _ .vmem, ⟨6, _⟩ => ⟨S32x1x2x1024, .f32⟩
  | .local _ .vmem, ⟨7, _⟩ => ⟨S32x1x2x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S32x64x1024, .f32⟩
  | .local _ .vmem, ⟨21, _⟩ => ⟨S32x64x1024, .f32⟩
  | _, _ => ⟨S256x32x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![8, 32], ![false, false]⟩

def k0_off1 (i : grid0.Coords) : Fin 3 → Nat :=
  let c0_96 : Index := 0#32
  let arg1 : BitVec 32 := BitVec.ofNat 32 (i 1).val
  let v652 : Index := Scalar.indexCast arg1
  let c0_97 : Index := 0#32
  ![0, v652.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S32x64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S256x32x5 : Shape := ⟨3, ![256, 32, 5]⟩
abbrev S256x64x1024 : Shape := ⟨3, ![256, 64, 1024]⟩
abbrev S256x32x1x1024 : Shape := ⟨4, ![256, 32, 1, 1024]⟩
abbrev S256x32x1 : Shape := ⟨3, ![256, 32, 1]⟩
abbrev S1024 : Shape := ⟨1, ![1024]⟩
abbrev S1024x1024 : Shape := ⟨2, ![1024, 1024]⟩
abbrev S16x16x16 : Shape := ⟨3, ![16, 16, 16]⟩
abbrev S_ : Shape := ⟨0, ![]⟩
abbrev S256x32x2x1024 : Shape := ⟨4, ![256, 32, 2, 1024]⟩
abbrev S32x256x5 : Shape := ⟨3, ![32, 256, 5]⟩
abbrev S32x256x2x1024 : Shape := ⟨4, ![32, 256, 2, 1024]⟩
abbrev S32x256x1x1024 : Shape := ⟨4, ![32, 256, 1, 1024]⟩
abbrev S32x256x1 : Shape := ⟨3, ![32, 256, 1]⟩
abbrev S1x256x5 : Shape := ⟨3, ![1, 256, 5]⟩
abbrev S256x5 : Shape := ⟨2, ![256, 5]⟩
abbrev S1x256x2x1024 : Shape := ⟨4, ![1, 256, 2, 1024]⟩
abbrev S256x2x1024 : Shape := ⟨3, ![256, 2, 1024]⟩
abbrev S1x256x1x1024 : Shape := ⟨4, ![1, 256, 1, 1024]⟩
abbrev S256x1x1024 : Shape := ⟨3, ![256, 1, 1024]⟩
abbrev S1x256x1 : Shape := ⟨3, ![1, 256, 1]⟩
abbrev S256x1 : Shape := ⟨2, ![256, 1]⟩
abbrev S256x2x64 : Shape := ⟨3, ![256, 2, 64]⟩
abbrev S256x2 : Shape := ⟨2, ![256, 2]⟩
abbrev S256x2x1 : Shape := ⟨3, ![256, 2, 1]⟩
abbrev S256x1024 : Shape := ⟨2, ![256, 1024]⟩
abbrev S256 : Shape := ⟨1, ![256]⟩
abbrev S1x1024 : Shape := ⟨2, ![1, 1024]⟩
abbrev S256x64x16 : Shape := ⟨3, ![256, 64, 16]⟩
abbrev S256x64 : Shape := ⟨2, ![256, 64]⟩
abbrev S256x64x1 : Shape := ⟨3, ![256, 64, 1]⟩
abbrev S256x64x16x1 : Shape := ⟨4, ![256, 64, 16, 1]⟩
abbrev S256x64x1x16 : Shape := ⟨4, ![256, 64, 1, 16]⟩
abbrev S256x64x16x16 : Shape := ⟨4, ![256, 64, 16, 16]⟩
abbrev S256x1x64x16 : Shape := ⟨4, ![256, 1, 64, 16]⟩
abbrev S256x5x64x16 : Shape := ⟨4, ![256, 5, 64, 16]⟩
abbrev S256x1x64 : Shape := ⟨3, ![256, 1, 64]⟩
abbrev S256x1x1 : Shape := ⟨3, ![256, 1, 1]⟩

abbrev nBuf : Space → Nat
  | .hbm => 342
  | .vmem => 0
  | .smem => 0
  | _ => 0

abbrev hbmTy0_0 (i : Nat) : BufTy := match i % 128 with
  | 0 => ⟨S256x32x5, .f32⟩
  | 1 => ⟨S256x64x1024, .f32⟩
  | 2 => ⟨S256x32x1x1024, .f32⟩
  | 3 => ⟨S256x64x1024, .f32⟩
  | 4 => ⟨S256x32x1, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024, .f32⟩
  | 16 => ⟨S1024, .f32⟩
  | 17 => ⟨S16x16x16, .i32⟩
  | 18 => ⟨S16x16x16, .i32⟩
  | 19 => ⟨S16x16x16, .i32⟩
  | 20 => ⟨S_, .i32⟩
  | 21 => ⟨S16x16x16, .i32⟩
  | 22 => ⟨S16x16x16, .i32⟩
  | 23 => ⟨S16x16x16, .i32⟩
  | 24 => ⟨S16x16x16, .i1⟩
  | 25 => ⟨S_, .f32⟩
  | 26 => ⟨S_, .f32⟩
  | 27 => ⟨S16x16x16, .f32⟩
  | 28 => ⟨S16x16x16, .f32⟩
  | 29 => ⟨S16x16x16, .f32⟩
  | 30 => ⟨S16x16x16, .i32⟩
  | 31 => ⟨S16x16x16, .i32⟩
  | 32 => ⟨S16x16x16, .i32⟩
  | 33 => ⟨S16x16x16, .i1⟩
  | 34 => ⟨S_, .f32⟩
  | 35 => ⟨S_, .f32⟩
  | 36 => ⟨S16x16x16, .f32⟩
  | 37 => ⟨S16x16x16, .f32⟩
  | 38 => ⟨S16x16x16, .f32⟩
  | 39 => ⟨S_, .f32⟩
  | 40 => ⟨S_, .f32⟩
  | 41 => ⟨S_, .f32⟩
  | 42 => ⟨S_, .f32⟩
  | 43 => ⟨S256x32x2x1024, .f32⟩
  | 44 => ⟨S32x256x5, .f32⟩
  | 45 => ⟨S32x256x2x1024, .f32⟩
  | 46 => ⟨S32x256x1x1024, .f32⟩
  | 47 => ⟨S32x256x1, .f32⟩
  | 48 => ⟨S_, .i32⟩
  | 49 => ⟨S32x256x5, .f32⟩
  | 50 => ⟨S32x256x2x1024, .f32⟩
  | 51 => ⟨S32x256x1x1024, .f32⟩
  | 52 => ⟨S32x256x1, .f32⟩
  | 53 => ⟨S_, .f32⟩
  | 54 => ⟨S1024, .f32⟩
  | 55 => ⟨S1024, .f32⟩
  | 56 => ⟨S1024x1024, .f32⟩
  | 57 => ⟨S1024, .f32⟩
  | 58 => ⟨S1024, .f32⟩
  | 59 => ⟨S1024, .f32⟩
  | 60 => ⟨S1024x1024, .f32⟩
  | 61 => ⟨S1024, .f32⟩
  | 62 => ⟨S16x16x16, .f32⟩
  | 63 => ⟨S16x16x16, .f32⟩
  | 64 => ⟨S1024x1024, .f32⟩
  | 65 => ⟨S1024, .f32⟩
  | 66 => ⟨S1024, .f32⟩
  | 67 => ⟨S1024, .f32⟩
  | 68 => ⟨S_, .i32⟩
  | 69 => ⟨S256x64x1024, .f32⟩
  | 70 => ⟨S_, .i32⟩
  | 71 => ⟨S_, .i1⟩
  | 72 => ⟨S_, .i32⟩
  | 73 => ⟨S_, .i32⟩
  | 74 => ⟨S1x256x5, .f32⟩
  | 75 => ⟨S256x5, .f32⟩
  | 76 => ⟨S_, .i32⟩
  | 77 => ⟨S_, .i32⟩
  | 78 => ⟨S_, .i32⟩
  | 79 => ⟨S1x256x2x1024, .f32⟩
  | 80 => ⟨S256x2x1024, .f32⟩
  | 81 => ⟨S_, .i32⟩
  | 82 => ⟨S_, .i32⟩
  | 83 => ⟨S_, .i32⟩
  | 84 => ⟨S1x256x1x1024, .f32⟩
  | 85 => ⟨S256x1x1024, .f32⟩
  | 86 => ⟨S_, .i32⟩
  | 87 => ⟨S_, .i32⟩
  | 88 => ⟨S1x256x1, .f32⟩
  | 89 => ⟨S256x1, .f32⟩
  | 90 => ⟨S256x2x64, .f32⟩
  | 91 => ⟨S256x2x64, .f32⟩
  | 92 => ⟨S256x2x64, .f32⟩
  | 93 => ⟨S_, .f32⟩
  | 94 => ⟨S256x2, .f32⟩
  | 95 => ⟨S_, .f32⟩
  | 96 => ⟨S256x2, .f32⟩
  | 97 => ⟨S256x2, .f32⟩
  | 98 => ⟨S256x2x1, .f32⟩
  | 99 => ⟨S256x2x64, .f32⟩
  | 100 => ⟨S256x2x64, .f32⟩
  | 101 => ⟨S256x2x64, .f32⟩
  | 102 => ⟨S_, .f32⟩
  | 103 => ⟨S256x2, .f32⟩
  | 104 => ⟨S256x2x1, .f32⟩
  | 105 => ⟨S256x2x64, .f32⟩
  | 106 => ⟨S256x2x64, .f32⟩
  | 107 => ⟨S256x2x1024, .f32⟩
  | 108 => ⟨S256x1x1024, .f32⟩
  | 109 => ⟨S256x1024, .f32⟩
  | 110 => ⟨S_, .f32⟩
  | 111 => ⟨S256, .f32⟩
  | 112 => ⟨S256x1, .f32⟩
  | 113 => ⟨S_, .f32⟩
  | 114 => ⟨S256x1, .f32⟩
  | 115 => ⟨S256x1, .f32⟩
  | 116 => ⟨S_, .i32⟩
  | 117 => ⟨S_, .f32⟩
  | 118 => ⟨S256, .f32⟩
  | 119 => ⟨S256x1, .f32⟩
  | 120 => ⟨S_, .f32⟩
  | 121 => ⟨S256x1, .f32⟩
  | 122 => ⟨S256x1, .f32⟩
  | 123 => ⟨S256x1024, .f32⟩
  | 124 => ⟨S256x1024, .f32⟩
  | 125 => ⟨S256x1024, .f32⟩
  | 126 => ⟨S_, .f32⟩
  | 127 => ⟨S_, .f32⟩
  | _ => ⟨S256x32x5, .f32⟩

abbrev hbmTy0_1 (i : Nat) : BufTy := match i % 128 with
  | 0 => ⟨S_, .f32⟩
  | 1 => ⟨S_, .f32⟩
  | 2 => ⟨S256, .f32⟩
  | 3 => ⟨S256x1, .f32⟩
  | 4 => ⟨S256x1, .f32⟩
  | 5 => ⟨S256x1, .f32⟩
  | 6 => ⟨S_, .f32⟩
  | 7 => ⟨S_, .i1⟩
  | 8 => ⟨S_, .f32⟩
  | 9 => ⟨S_, .f32⟩
  | 10 => ⟨S256x1, .f32⟩
  | 11 => ⟨S256x1, .f32⟩
  | 12 => ⟨S256x1024, .f32⟩
  | 13 => ⟨S256x1024, .f32⟩
  | 14 => ⟨S_, .f32⟩
  | 15 => ⟨S256x1, .f32⟩
  | 16 => ⟨S256x1, .f32⟩
  | 17 => ⟨S256x1, .f32⟩
  | 18 => ⟨S256x1024, .f32⟩
  | 19 => ⟨S256x1024, .f32⟩
  | 20 => ⟨S1x1024, .f32⟩
  | 21 => ⟨S256x1024, .f32⟩
  | 22 => ⟨S256x1024, .f32⟩
  | 23 => ⟨S1x1024, .f32⟩
  | 24 => ⟨S256x1024, .f32⟩
  | 25 => ⟨S256x1024, .f32⟩
  | 26 => ⟨S256x1024, .f32⟩
  | 27 => ⟨S1x1024, .f32⟩
  | 28 => ⟨S256x1024, .f32⟩
  | 29 => ⟨S256x1024, .f32⟩
  | 30 => ⟨S256x64x16, .f32⟩
  | 31 => ⟨S_, .f32⟩
  | 32 => ⟨S256x64, .f32⟩
  | 33 => ⟨S_, .f32⟩
  | 34 => ⟨S256x64, .f32⟩
  | 35 => ⟨S256x64, .f32⟩
  | 36 => ⟨S256x64x1, .f32⟩
  | 37 => ⟨S256x64x16, .f32⟩
  | 38 => ⟨S256x64x16, .f32⟩
  | 39 => ⟨S256x64x16, .f32⟩
  | 40 => ⟨S_, .f32⟩
  | 41 => ⟨S256x64, .f32⟩
  | 42 => ⟨S256x64x1, .f32⟩
  | 43 => ⟨S256x64x16, .f32⟩
  | 44 => ⟨S256x64x16, .f32⟩
  | 45 => ⟨S256x1x1024, .f32⟩
  | 46 => ⟨S256x1024, .f32⟩
  | 47 => ⟨S_, .f32⟩
  | 48 => ⟨S256, .f32⟩
  | 49 => ⟨S256x1, .f32⟩
  | 50 => ⟨S_, .f32⟩
  | 51 => ⟨S256x1, .f32⟩
  | 52 => ⟨S256x1, .f32⟩
  | 53 => ⟨S_, .i32⟩
  | 54 => ⟨S_, .f32⟩
  | 55 => ⟨S256, .f32⟩
  | 56 => ⟨S256x1, .f32⟩
  | 57 => ⟨S_, .f32⟩
  | 58 => ⟨S256x1, .f32⟩
  | 59 => ⟨S256x1, .f32⟩
  | 60 => ⟨S256x1024, .f32⟩
  | 61 => ⟨S256x1024, .f32⟩
  | 62 => ⟨S256x1024, .f32⟩
  | 63 => ⟨S_, .f32⟩
  | 64 => ⟨S_, .f32⟩
  | 65 => ⟨S_, .f32⟩
  | 66 => ⟨S_, .f32⟩
  | 67 => ⟨S256, .f32⟩
  | 68 => ⟨S256x1, .f32⟩
  | 69 => ⟨S256x1, .f32⟩
  | 70 => ⟨S256x1, .f32⟩
  | 71 => ⟨S_, .f32⟩
  | 72 => ⟨S_, .i1⟩
  | 73 => ⟨S_, .f32⟩
  | 74 => ⟨S_, .f32⟩
  | 75 => ⟨S256x1, .f32⟩
  | 76 => ⟨S256x1, .f32⟩
  | 77 => ⟨S256x1024, .f32⟩
  | 78 => ⟨S256x1024, .f32⟩
  | 79 => ⟨S_, .f32⟩
  | 80 => ⟨S256x1, .f32⟩
  | 81 => ⟨S256x1, .f32⟩
  | 82 => ⟨S256x1, .f32⟩
  | 83 => ⟨S256x1024, .f32⟩
  | 84 => ⟨S256x1024, .f32⟩
  | 85 => ⟨S1x1024, .f32⟩
  | 86 => ⟨S256x1024, .f32⟩
  | 87 => ⟨S256x1024, .f32⟩
  | 88 => ⟨S1x1024, .f32⟩
  | 89 => ⟨S256x1024, .f32⟩
  | 90 => ⟨S256x1024, .f32⟩
  | 91 => ⟨S256x1024, .f32⟩
  | 92 => ⟨S1x1024, .f32⟩
  | 93 => ⟨S256x1024, .f32⟩
  | 94 => ⟨S256x1024, .f32⟩
  | 95 => ⟨S256x64x16, .f32⟩
  | 96 => ⟨S_, .f32⟩
  | 97 => ⟨S256x64, .f32⟩
  | 98 => ⟨S_, .f32⟩
  | 99 => ⟨S256x64, .f32⟩
  | 100 => ⟨S256x64, .f32⟩
  | 101 => ⟨S256x64x1, .f32⟩
  | 102 => ⟨S256x64x16, .f32⟩
  | 103 => ⟨S256x64x16, .f32⟩
  | 104 => ⟨S256x64x16, .f32⟩
  | 105 => ⟨S_, .f32⟩
  | 106 => ⟨S256x64, .f32⟩
  | 107 => ⟨S256x64x1, .f32⟩
  | 108 => ⟨S256x64x16, .f32⟩
  | 109 => ⟨S256x64x16, .f32⟩
  | 110 => ⟨S256x64x16x1, .f32⟩
  | 111 => ⟨S256x64x1x16, .f32⟩
  | 112 => ⟨S256x64x16x16, .f32⟩
  | 113 => ⟨S256x64x16x16, .f32⟩
  | 114 => ⟨S256x64x16x16, .f32⟩
  | 115 => ⟨S256x64x16, .f32⟩
  | 116 => ⟨S256x64x16, .f32⟩
  | 117 => ⟨S_, .f32⟩
  | 118 => ⟨S256x64x16, .f32⟩
  | 119 => ⟨S256x1x64x16, .f32⟩
  | 120 => ⟨S256x1x64x16, .f32⟩
  | 121 => ⟨S256x1x64x16, .f32⟩
  | 122 => ⟨S256x1x64x16, .f32⟩
  | 123 => ⟨S256x1x64x16, .f32⟩
  | 124 => ⟨S256x5x64x16, .f32⟩
  | 125 => ⟨S256x64x16, .f32⟩
  | 126 => ⟨S256x1024, .f32⟩
  | 127 => ⟨S256x1024, .f32⟩
  | _ => ⟨S256x32x5, .f32⟩

abbrev hbmTy0_2 (i : Nat) : BufTy := match i % 128 with
  | 0 => ⟨S1x1024, .f32⟩
  | 1 => ⟨S256x1024, .f32⟩
  | 2 => ⟨S256x1024, .f32⟩
  | 3 => ⟨S_, .f32⟩
  | 4 => ⟨S256, .f32⟩
  | 5 => ⟨S256x1, .f32⟩
  | 6 => ⟨S_, .f32⟩
  | 7 => ⟨S256x1, .f32⟩
  | 8 => ⟨S256x1, .f32⟩
  | 9 => ⟨S_, .i32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S256x1024, .f32⟩
  | 17 => ⟨S256x1024, .f32⟩
  | 18 => ⟨S256x1024, .f32⟩
  | 19 => ⟨S_, .f32⟩
  | 20 => ⟨S_, .f32⟩
  | 21 => ⟨S_, .f32⟩
  | 22 => ⟨S_, .f32⟩
  | 23 => ⟨S256, .f32⟩
  | 24 => ⟨S256x1, .f32⟩
  | 25 => ⟨S256x1, .f32⟩
  | 26 => ⟨S256x1, .f32⟩
  | 27 => ⟨S_, .f32⟩
  | 28 => ⟨S_, .i1⟩
  | 29 => ⟨S_, .f32⟩
  | 30 => ⟨S_, .f32⟩
  | 31 => ⟨S256x1, .f32⟩
  | 32 => ⟨S256x1, .f32⟩
  | 33 => ⟨S256x1024, .f32⟩
  | 34 => ⟨S256x1024, .f32⟩
  | 35 => ⟨S_, .f32⟩
  | 36 => ⟨S256x1, .f32⟩
  | 37 => ⟨S256x1, .f32⟩
  | 38 => ⟨S256x1, .f32⟩
  | 39 => ⟨S256x1024, .f32⟩
  | 40 => ⟨S256x1024, .f32⟩
  | 41 => ⟨S1x1024, .f32⟩
  | 42 => ⟨S256x1024, .f32⟩
  | 43 => ⟨S256x1024, .f32⟩
  | 44 => ⟨S1x1024, .f32⟩
  | 45 => ⟨S256x1024, .f32⟩
  | 46 => ⟨S256x1024, .f32⟩
  | 47 => ⟨S256x1x1024, .f32⟩
  | 48 => ⟨S256x1x64, .f32⟩
  | 49 => ⟨S256x1x64, .f32⟩
  | 50 => ⟨S256x1x64, .f32⟩
  | 51 => ⟨S_, .f32⟩
  | 52 => ⟨S256x1, .f32⟩
  | 53 => ⟨S_, .f32⟩
  | 54 => ⟨S256x1, .f32⟩
  | 55 => ⟨S256x1, .f32⟩
  | 56 => ⟨S256x1x1, .f32⟩
  | 57 => ⟨S256x1x64, .f32⟩
  | 58 => ⟨S256x1x64, .f32⟩
  | 59 => ⟨S256x1x64, .f32⟩
  | 60 => ⟨S_, .f32⟩
  | 61 => ⟨S256x1, .f32⟩
  | 62 => ⟨S256x1x1, .f32⟩
  | 63 => ⟨S256x1x64, .f32⟩
  | 64 => ⟨S256x1x64, .f32⟩
  | 65 => ⟨S256x1x1, .f32⟩
  | 66 => ⟨S256x1, .f32⟩
  | 67 => ⟨S256x1x1, .f32⟩
  | 68 => ⟨S_, .f32⟩
  | 69 => ⟨S256x1x1, .f32⟩
  | 70 => ⟨S256x1x1, .f32⟩
  | 71 => ⟨S256x1x1, .f32⟩
  | 72 => ⟨S256x1x64, .f32⟩
  | 73 => ⟨S256x1x64, .f32⟩
  | 74 => ⟨S256x64x1, .f32⟩
  | 75 => ⟨S_, .f32⟩
  | 76 => ⟨S256x64x1, .f32⟩
  | 77 => ⟨S256x64x1, .f32⟩
  | 78 => ⟨S256x64x1024, .f32⟩
  | 79 => ⟨S256x64x1024, .f32⟩
  | 80 => ⟨S256x64x1024, .f32⟩
  | 81 => ⟨S256x64x1024, .f32⟩
  | 82 => ⟨S256x64x1024, .f32⟩
  | 83 => ⟨S256x64x1024, .f32⟩
  | 84 => ⟨S_, .i32⟩
  | 85 => ⟨S_, .i32⟩
  | _ => ⟨S256x32x5, .f32⟩

abbrev hbmTy (i : Nat) : BufTy := match i / 128 with
  | 0 => hbmTy0_0 i
  | 1 => hbmTy0_1 i
  | 2 => hbmTy0_2 i
  | _ => ⟨S256x32x5, .f32⟩

abbrev bufTy : (tb : Table) → Fin (tcTables nBuf tb) → BufTy
  | .hbm, ⟨i, _⟩ => hbmTy i
  | _, _ => ⟨S256x32x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20_0 : Ref sig .tc := ⟨.hbm, 49, rfl⟩
abbrev main_v20_1 : Ref sig .tc := ⟨.hbm, 50, rfl⟩
abbrev main_v20_2 : Ref sig .tc := ⟨.hbm, 51, rfl⟩
abbrev main_v20_3 : Ref sig .tc := ⟨.hbm, 52, rfl⟩
abbrev main_v20_4 : Ref sig .tc := ⟨.hbm, 53, rfl⟩
abbrev main_v20_5 : Ref sig .tc := ⟨.hbm, 54, rfl⟩
abbrev main_v20_6 : Ref sig .tc := ⟨.hbm, 55, rfl⟩
abbrev main_v20_7 : Ref sig .tc := ⟨.hbm, 56, rfl⟩
abbrev main_v20_8 : Ref sig .tc := ⟨.hbm, 57, rfl⟩
abbrev main_v20_9 : Ref sig .tc := ⟨.hbm, 58, rfl⟩
abbrev main_v20_10 : Ref sig .tc := ⟨.hbm, 59, rfl⟩
abbrev main_v20_11 : Ref sig .tc := ⟨.hbm, 60, rfl⟩
abbrev main_v20_12 : Ref sig .tc := ⟨.hbm, 61, rfl⟩
abbrev main_v20_13 : Ref sig .tc := ⟨.hbm, 62, rfl⟩
abbrev main_v20_14 : Ref sig .tc := ⟨.hbm, 63, rfl⟩
abbrev main_v20_15 : Ref sig .tc := ⟨.hbm, 64, rfl⟩
abbrev main_v20_16 : Ref sig .tc := ⟨.hbm, 65, rfl⟩
abbrev main_v20_17 : Ref sig .tc := ⟨.hbm, 66, rfl⟩
abbrev main_v20_18 : Ref sig .tc := ⟨.hbm, 67, rfl⟩
abbrev main_v20_19 : Ref sig .tc := ⟨.hbm, 68, rfl⟩
abbrev main_v20_20 : Ref sig .tc := ⟨.hbm, 69, rfl⟩
abbrev main_while0c_c_26 : Ref sig .tc := ⟨.hbm, 70, rfl⟩
abbrev main_while0c_v21 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_v0 : Ref sig .tc := ⟨.hbm, 74, rfl⟩
abbrev main_while0b_v21 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v22 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v23 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_v0 : Ref sig .tc := ⟨.hbm, 88, rfl⟩
abbrev main_while0b_v24 : Ref sig .tc := ⟨.hbm, 89, rfl⟩
abbrev main_while0b_v25 : Ref sig .tc := ⟨.hbm, 90, rfl⟩
abbrev main_while0b_v26 : Ref sig .tc := ⟨.hbm, 91, rfl⟩
abbrev main_while0b_v27 : Ref sig .tc := ⟨.hbm, 92, rfl⟩
abbrev main_while0b_cst_26 : Ref sig .tc := ⟨.hbm, 93, rfl⟩
abbrev main_while0b_v28 : Ref sig .tc := ⟨.hbm, 94, rfl⟩
abbrev main_while0b_cst_27 : Ref sig .tc := ⟨.hbm, 95, rfl⟩
abbrev main_while0b_v29 : Ref sig .tc := ⟨.hbm, 96, rfl⟩
abbrev main_while0b_v30 : Ref sig .tc := ⟨.hbm, 97, rfl⟩
abbrev main_while0b_v31 : Ref sig .tc := ⟨.hbm, 98, rfl⟩
abbrev main_while0b_v32 : Ref sig .tc := ⟨.hbm, 99, rfl⟩
abbrev main_while0b_v33 : Ref sig .tc := ⟨.hbm, 100, rfl⟩
abbrev main_while0b_v34 : Ref sig .tc := ⟨.hbm, 101, rfl⟩
abbrev main_while0b_cst_28 : Ref sig .tc := ⟨.hbm, 102, rfl⟩
abbrev main_while0b_v35 : Ref sig .tc := ⟨.hbm, 103, rfl⟩
abbrev main_while0b_v36 : Ref sig .tc := ⟨.hbm, 104, rfl⟩
abbrev main_while0b_v37 : Ref sig .tc := ⟨.hbm, 105, rfl⟩
abbrev main_while0b_v38 : Ref sig .tc := ⟨.hbm, 106, rfl⟩
abbrev main_while0b_v39 : Ref sig .tc := ⟨.hbm, 107, rfl⟩
abbrev main_while0b_v40 : Ref sig .tc := ⟨.hbm, 108, rfl⟩
abbrev main_while0b_v41 : Ref sig .tc := ⟨.hbm, 109, rfl⟩
abbrev main_while0b_cst_29 : Ref sig .tc := ⟨.hbm, 110, rfl⟩
abbrev main_while0b_v42 : Ref sig .tc := ⟨.hbm, 111, rfl⟩
abbrev main_while0b_v43 : Ref sig .tc := ⟨.hbm, 112, rfl⟩
abbrev main_while0b_cst_30 : Ref sig .tc := ⟨.hbm, 113, rfl⟩
abbrev main_while0b_v44 : Ref sig .tc := ⟨.hbm, 114, rfl⟩
abbrev main_while0b_v45 : Ref sig .tc := ⟨.hbm, 115, rfl⟩
abbrev main_while0b_c_31 : Ref sig .tc := ⟨.hbm, 116, rfl⟩
abbrev main_while0b_call6_cst : Ref sig .tc := ⟨.hbm, 117, rfl⟩
abbrev main_while0b_call6_v0 : Ref sig .tc := ⟨.hbm, 118, rfl⟩
abbrev main_while0b_call6_v1 : Ref sig .tc := ⟨.hbm, 119, rfl⟩
abbrev main_while0b_call6_cst_0 : Ref sig .tc := ⟨.hbm, 120, rfl⟩
abbrev main_while0b_call6_v2 : Ref sig .tc := ⟨.hbm, 121, rfl⟩
abbrev main_while0b_call6_v3 : Ref sig .tc := ⟨.hbm, 122, rfl⟩
abbrev main_while0b_call6_v4 : Ref sig .tc := ⟨.hbm, 123, rfl⟩
abbrev main_while0b_call6_v5 : Ref sig .tc := ⟨.hbm, 124, rfl⟩
abbrev main_while0b_call6_v6 : Ref sig .tc := ⟨.hbm, 125, rfl⟩
abbrev main_while0b_call6_v7 : Ref sig .tc := ⟨.hbm, 126, rfl⟩
abbrev main_while0b_call6_cst_1 : Ref sig .tc := ⟨.hbm, 127, rfl⟩
abbrev main_while0b_call6_v8 : Ref sig .tc := ⟨.hbm, 128, rfl⟩
abbrev main_while0b_call6_cst_2 : Ref sig .tc := ⟨.hbm, 129, rfl⟩
abbrev main_while0b_call6_v9 : Ref sig .tc := ⟨.hbm, 130, rfl⟩
abbrev main_while0b_call6_v10 : Ref sig .tc := ⟨.hbm, 131, rfl⟩
abbrev main_while0b_call6_v11 : Ref sig .tc := ⟨.hbm, 132, rfl⟩
abbrev main_while0b_call6_v12 : Ref sig .tc := ⟨.hbm, 133, rfl⟩
abbrev main_while0b_call6_cst_3 : Ref sig .tc := ⟨.hbm, 134, rfl⟩
abbrev main_while0b_call6_v13 : Ref sig .tc := ⟨.hbm, 135, rfl⟩
abbrev main_while0b_call6_cst_4 : Ref sig .tc := ⟨.hbm, 136, rfl⟩
abbrev main_while0b_call6_call0_v0 : Ref sig .tc := ⟨.hbm, 137, rfl⟩
abbrev main_while0b_call6_call0_v1 : Ref sig .tc := ⟨.hbm, 138, rfl⟩
abbrev main_while0b_v46 : Ref sig .tc := ⟨.hbm, 139, rfl⟩
abbrev main_while0b_v47 : Ref sig .tc := ⟨.hbm, 140, rfl⟩
abbrev main_while0b_v48 : Ref sig .tc := ⟨.hbm, 141, rfl⟩
abbrev main_while0b_cst_32 : Ref sig .tc := ⟨.hbm, 142, rfl⟩
abbrev main_while0b_v49 : Ref sig .tc := ⟨.hbm, 143, rfl⟩
abbrev main_while0b_v50 : Ref sig .tc := ⟨.hbm, 144, rfl⟩
abbrev main_while0b_v51 : Ref sig .tc := ⟨.hbm, 145, rfl⟩
abbrev main_while0b_v52 : Ref sig .tc := ⟨.hbm, 146, rfl⟩
abbrev main_while0b_v53 : Ref sig .tc := ⟨.hbm, 147, rfl⟩
abbrev main_while0b_v54 : Ref sig .tc := ⟨.hbm, 148, rfl⟩
abbrev main_while0b_v55 : Ref sig .tc := ⟨.hbm, 149, rfl⟩
abbrev main_while0b_v56 : Ref sig .tc := ⟨.hbm, 150, rfl⟩
abbrev main_while0b_v57 : Ref sig .tc := ⟨.hbm, 151, rfl⟩
abbrev main_while0b_v58 : Ref sig .tc := ⟨.hbm, 152, rfl⟩
abbrev main_while0b_v59 : Ref sig .tc := ⟨.hbm, 153, rfl⟩
abbrev main_while0b_v60 : Ref sig .tc := ⟨.hbm, 154, rfl⟩
abbrev main_while0b_v61 : Ref sig .tc := ⟨.hbm, 155, rfl⟩
abbrev main_while0b_v62 : Ref sig .tc := ⟨.hbm, 156, rfl⟩
abbrev main_while0b_v63 : Ref sig .tc := ⟨.hbm, 157, rfl⟩
abbrev main_while0b_v64 : Ref sig .tc := ⟨.hbm, 158, rfl⟩
abbrev main_while0b_cst_33 : Ref sig .tc := ⟨.hbm, 159, rfl⟩
abbrev main_while0b_v65 : Ref sig .tc := ⟨.hbm, 160, rfl⟩
abbrev main_while0b_cst_34 : Ref sig .tc := ⟨.hbm, 161, rfl⟩
abbrev main_while0b_v66 : Ref sig .tc := ⟨.hbm, 162, rfl⟩
abbrev main_while0b_v67 : Ref sig .tc := ⟨.hbm, 163, rfl⟩
abbrev main_while0b_v68 : Ref sig .tc := ⟨.hbm, 164, rfl⟩
abbrev main_while0b_v69 : Ref sig .tc := ⟨.hbm, 165, rfl⟩
abbrev main_while0b_v70 : Ref sig .tc := ⟨.hbm, 166, rfl⟩
abbrev main_while0b_v71 : Ref sig .tc := ⟨.hbm, 167, rfl⟩
abbrev main_while0b_cst_35 : Ref sig .tc := ⟨.hbm, 168, rfl⟩
abbrev main_while0b_v72 : Ref sig .tc := ⟨.hbm, 169, rfl⟩
abbrev main_while0b_v73 : Ref sig .tc := ⟨.hbm, 170, rfl⟩
abbrev main_while0b_v74 : Ref sig .tc := ⟨.hbm, 171, rfl⟩
abbrev main_while0b_v75 : Ref sig .tc := ⟨.hbm, 172, rfl⟩
abbrev main_while0b_v76 : Ref sig .tc := ⟨.hbm, 173, rfl⟩
abbrev main_while0b_v77 : Ref sig .tc := ⟨.hbm, 174, rfl⟩
abbrev main_while0b_cst_36 : Ref sig .tc := ⟨.hbm, 175, rfl⟩
abbrev main_while0b_v78 : Ref sig .tc := ⟨.hbm, 176, rfl⟩
abbrev main_while0b_v79 : Ref sig .tc := ⟨.hbm, 177, rfl⟩
abbrev main_while0b_cst_37 : Ref sig .tc := ⟨.hbm, 178, rfl⟩
abbrev main_while0b_v80 : Ref sig .tc := ⟨.hbm, 179, rfl⟩
abbrev main_while0b_v81 : Ref sig .tc := ⟨.hbm, 180, rfl⟩
abbrev main_while0b_c_38 : Ref sig .tc := ⟨.hbm, 181, rfl⟩
abbrev main_while0b_call7_cst : Ref sig .tc := ⟨.hbm, 182, rfl⟩
abbrev main_while0b_call7_v0 : Ref sig .tc := ⟨.hbm, 183, rfl⟩
abbrev main_while0b_call7_v1 : Ref sig .tc := ⟨.hbm, 184, rfl⟩
abbrev main_while0b_call7_cst_0 : Ref sig .tc := ⟨.hbm, 185, rfl⟩
abbrev main_while0b_call7_v2 : Ref sig .tc := ⟨.hbm, 186, rfl⟩
abbrev main_while0b_call7_v3 : Ref sig .tc := ⟨.hbm, 187, rfl⟩
abbrev main_while0b_call7_v4 : Ref sig .tc := ⟨.hbm, 188, rfl⟩
abbrev main_while0b_call7_v5 : Ref sig .tc := ⟨.hbm, 189, rfl⟩
abbrev main_while0b_call7_v6 : Ref sig .tc := ⟨.hbm, 190, rfl⟩
abbrev main_while0b_call7_v7 : Ref sig .tc := ⟨.hbm, 191, rfl⟩
abbrev main_while0b_call7_cst_1 : Ref sig .tc := ⟨.hbm, 192, rfl⟩
abbrev main_while0b_call7_v8 : Ref sig .tc := ⟨.hbm, 193, rfl⟩
abbrev main_while0b_call7_cst_2 : Ref sig .tc := ⟨.hbm, 194, rfl⟩
abbrev main_while0b_call7_v9 : Ref sig .tc := ⟨.hbm, 195, rfl⟩
abbrev main_while0b_call7_v10 : Ref sig .tc := ⟨.hbm, 196, rfl⟩
abbrev main_while0b_call7_v11 : Ref sig .tc := ⟨.hbm, 197, rfl⟩
abbrev main_while0b_call7_v12 : Ref sig .tc := ⟨.hbm, 198, rfl⟩
abbrev main_while0b_call7_cst_3 : Ref sig .tc := ⟨.hbm, 199, rfl⟩
abbrev main_while0b_call7_v13 : Ref sig .tc := ⟨.hbm, 200, rfl⟩
abbrev main_while0b_call7_cst_4 : Ref sig .tc := ⟨.hbm, 201, rfl⟩
abbrev main_while0b_call7_call0_v0 : Ref sig .tc := ⟨.hbm, 202, rfl⟩
abbrev main_while0b_call7_call0_v1 : Ref sig .tc := ⟨.hbm, 203, rfl⟩
abbrev main_while0b_v82 : Ref sig .tc := ⟨.hbm, 204, rfl⟩
abbrev main_while0b_v83 : Ref sig .tc := ⟨.hbm, 205, rfl⟩
abbrev main_while0b_v84 : Ref sig .tc := ⟨.hbm, 206, rfl⟩
abbrev main_while0b_cst_39 : Ref sig .tc := ⟨.hbm, 207, rfl⟩
abbrev main_while0b_v85 : Ref sig .tc := ⟨.hbm, 208, rfl⟩
abbrev main_while0b_v86 : Ref sig .tc := ⟨.hbm, 209, rfl⟩
abbrev main_while0b_v87 : Ref sig .tc := ⟨.hbm, 210, rfl⟩
abbrev main_while0b_v88 : Ref sig .tc := ⟨.hbm, 211, rfl⟩
abbrev main_while0b_v89 : Ref sig .tc := ⟨.hbm, 212, rfl⟩
abbrev main_while0b_v90 : Ref sig .tc := ⟨.hbm, 213, rfl⟩
abbrev main_while0b_v91 : Ref sig .tc := ⟨.hbm, 214, rfl⟩
abbrev main_while0b_v92 : Ref sig .tc := ⟨.hbm, 215, rfl⟩
abbrev main_while0b_v93 : Ref sig .tc := ⟨.hbm, 216, rfl⟩
abbrev main_while0b_v94 : Ref sig .tc := ⟨.hbm, 217, rfl⟩
abbrev main_while0b_v95 : Ref sig .tc := ⟨.hbm, 218, rfl⟩
abbrev main_while0b_v96 : Ref sig .tc := ⟨.hbm, 219, rfl⟩
abbrev main_while0b_v97 : Ref sig .tc := ⟨.hbm, 220, rfl⟩
abbrev main_while0b_v98 : Ref sig .tc := ⟨.hbm, 221, rfl⟩
abbrev main_while0b_v99 : Ref sig .tc := ⟨.hbm, 222, rfl⟩
abbrev main_while0b_v100 : Ref sig .tc := ⟨.hbm, 223, rfl⟩
abbrev main_while0b_cst_40 : Ref sig .tc := ⟨.hbm, 224, rfl⟩
abbrev main_while0b_v101 : Ref sig .tc := ⟨.hbm, 225, rfl⟩
abbrev main_while0b_cst_41 : Ref sig .tc := ⟨.hbm, 226, rfl⟩
abbrev main_while0b_v102 : Ref sig .tc := ⟨.hbm, 227, rfl⟩
abbrev main_while0b_v103 : Ref sig .tc := ⟨.hbm, 228, rfl⟩
abbrev main_while0b_v104 : Ref sig .tc := ⟨.hbm, 229, rfl⟩
abbrev main_while0b_v105 : Ref sig .tc := ⟨.hbm, 230, rfl⟩
abbrev main_while0b_v106 : Ref sig .tc := ⟨.hbm, 231, rfl⟩
abbrev main_while0b_v107 : Ref sig .tc := ⟨.hbm, 232, rfl⟩
abbrev main_while0b_cst_42 : Ref sig .tc := ⟨.hbm, 233, rfl⟩
abbrev main_while0b_v108 : Ref sig .tc := ⟨.hbm, 234, rfl⟩
abbrev main_while0b_v109 : Ref sig .tc := ⟨.hbm, 235, rfl⟩
abbrev main_while0b_v110 : Ref sig .tc := ⟨.hbm, 236, rfl⟩
abbrev main_while0b_v111 : Ref sig .tc := ⟨.hbm, 237, rfl⟩
abbrev main_while0b_v112 : Ref sig .tc := ⟨.hbm, 238, rfl⟩
abbrev main_while0b_v113 : Ref sig .tc := ⟨.hbm, 239, rfl⟩
abbrev main_while0b_v114 : Ref sig .tc := ⟨.hbm, 240, rfl⟩
abbrev main_while0b_v115 : Ref sig .tc := ⟨.hbm, 241, rfl⟩
abbrev main_while0b_v116 : Ref sig .tc := ⟨.hbm, 242, rfl⟩
abbrev main_while0b_v117 : Ref sig .tc := ⟨.hbm, 243, rfl⟩
abbrev main_while0b_v118 : Ref sig .tc := ⟨.hbm, 244, rfl⟩
abbrev main_while0b_cst_43 : Ref sig .tc := ⟨.hbm, 245, rfl⟩
abbrev main_while0b_v119 : Ref sig .tc := ⟨.hbm, 246, rfl⟩
abbrev main_while0b_v120 : Ref sig .tc := ⟨.hbm, 247, rfl⟩
abbrev main_while0b_v121 : Ref sig .tc := ⟨.hbm, 248, rfl⟩
abbrev main_while0b_v122 : Ref sig .tc := ⟨.hbm, 249, rfl⟩
abbrev main_while0b_v123 : Ref sig .tc := ⟨.hbm, 250, rfl⟩
abbrev main_while0b_v124 : Ref sig .tc := ⟨.hbm, 251, rfl⟩
abbrev main_while0b_v125 : Ref sig .tc := ⟨.hbm, 252, rfl⟩
abbrev main_while0b_v126 : Ref sig .tc := ⟨.hbm, 253, rfl⟩
abbrev main_while0b_v127 : Ref sig .tc := ⟨.hbm, 254, rfl⟩
abbrev main_while0b_v128 : Ref sig .tc := ⟨.hbm, 255, rfl⟩
abbrev main_while0b_v129 : Ref sig .tc := ⟨.hbm, 256, rfl⟩
abbrev main_while0b_v130 : Ref sig .tc := ⟨.hbm, 257, rfl⟩
abbrev main_while0b_v131 : Ref sig .tc := ⟨.hbm, 258, rfl⟩
abbrev main_while0b_cst_44 : Ref sig .tc := ⟨.hbm, 259, rfl⟩
abbrev main_while0b_v132 : Ref sig .tc := ⟨.hbm, 260, rfl⟩
abbrev main_while0b_v133 : Ref sig .tc := ⟨.hbm, 261, rfl⟩
abbrev main_while0b_cst_45 : Ref sig .tc := ⟨.hbm, 262, rfl⟩
abbrev main_while0b_v134 : Ref sig .tc := ⟨.hbm, 263, rfl⟩
abbrev main_while0b_v135 : Ref sig .tc := ⟨.hbm, 264, rfl⟩
abbrev main_while0b_c_46 : Ref sig .tc := ⟨.hbm, 265, rfl⟩
abbrev main_while0b_call8_cst : Ref sig .tc := ⟨.hbm, 266, rfl⟩
abbrev main_while0b_call8_v0 : Ref sig .tc := ⟨.hbm, 267, rfl⟩
abbrev main_while0b_call8_v1 : Ref sig .tc := ⟨.hbm, 268, rfl⟩
abbrev main_while0b_call8_cst_0 : Ref sig .tc := ⟨.hbm, 269, rfl⟩
abbrev main_while0b_call8_v2 : Ref sig .tc := ⟨.hbm, 270, rfl⟩
abbrev main_while0b_call8_v3 : Ref sig .tc := ⟨.hbm, 271, rfl⟩
abbrev main_while0b_call8_v4 : Ref sig .tc := ⟨.hbm, 272, rfl⟩
abbrev main_while0b_call8_v5 : Ref sig .tc := ⟨.hbm, 273, rfl⟩
abbrev main_while0b_call8_v6 : Ref sig .tc := ⟨.hbm, 274, rfl⟩
abbrev main_while0b_call8_v7 : Ref sig .tc := ⟨.hbm, 275, rfl⟩
abbrev main_while0b_call8_cst_1 : Ref sig .tc := ⟨.hbm, 276, rfl⟩
abbrev main_while0b_call8_v8 : Ref sig .tc := ⟨.hbm, 277, rfl⟩
abbrev main_while0b_call8_cst_2 : Ref sig .tc := ⟨.hbm, 278, rfl⟩
abbrev main_while0b_call8_v9 : Ref sig .tc := ⟨.hbm, 279, rfl⟩
abbrev main_while0b_call8_v10 : Ref sig .tc := ⟨.hbm, 280, rfl⟩
abbrev main_while0b_call8_v11 : Ref sig .tc := ⟨.hbm, 281, rfl⟩
abbrev main_while0b_call8_v12 : Ref sig .tc := ⟨.hbm, 282, rfl⟩
abbrev main_while0b_call8_cst_3 : Ref sig .tc := ⟨.hbm, 283, rfl⟩
abbrev main_while0b_call8_v13 : Ref sig .tc := ⟨.hbm, 284, rfl⟩
abbrev main_while0b_call8_cst_4 : Ref sig .tc := ⟨.hbm, 285, rfl⟩
abbrev main_while0b_call8_call0_v0 : Ref sig .tc := ⟨.hbm, 286, rfl⟩
abbrev main_while0b_call8_call0_v1 : Ref sig .tc := ⟨.hbm, 287, rfl⟩
abbrev main_while0b_v136 : Ref sig .tc := ⟨.hbm, 288, rfl⟩
abbrev main_while0b_v137 : Ref sig .tc := ⟨.hbm, 289, rfl⟩
abbrev main_while0b_v138 : Ref sig .tc := ⟨.hbm, 290, rfl⟩
abbrev main_while0b_cst_47 : Ref sig .tc := ⟨.hbm, 291, rfl⟩
abbrev main_while0b_v139 : Ref sig .tc := ⟨.hbm, 292, rfl⟩
abbrev main_while0b_v140 : Ref sig .tc := ⟨.hbm, 293, rfl⟩
abbrev main_while0b_v141 : Ref sig .tc := ⟨.hbm, 294, rfl⟩
abbrev main_while0b_v142 : Ref sig .tc := ⟨.hbm, 295, rfl⟩
abbrev main_while0b_v143 : Ref sig .tc := ⟨.hbm, 296, rfl⟩
abbrev main_while0b_v144 : Ref sig .tc := ⟨.hbm, 297, rfl⟩
abbrev main_while0b_v145 : Ref sig .tc := ⟨.hbm, 298, rfl⟩
abbrev main_while0b_v146 : Ref sig .tc := ⟨.hbm, 299, rfl⟩
abbrev main_while0b_v147 : Ref sig .tc := ⟨.hbm, 300, rfl⟩
abbrev main_while0b_v148 : Ref sig .tc := ⟨.hbm, 301, rfl⟩
abbrev main_while0b_v149 : Ref sig .tc := ⟨.hbm, 302, rfl⟩
abbrev main_while0b_v150 : Ref sig .tc := ⟨.hbm, 303, rfl⟩
abbrev main_while0b_v151 : Ref sig .tc := ⟨.hbm, 304, rfl⟩
abbrev main_while0b_v152 : Ref sig .tc := ⟨.hbm, 305, rfl⟩
abbrev main_while0b_v153 : Ref sig .tc := ⟨.hbm, 306, rfl⟩
abbrev main_while0b_cst_48 : Ref sig .tc := ⟨.hbm, 307, rfl⟩
abbrev main_while0b_v154 : Ref sig .tc := ⟨.hbm, 308, rfl⟩
abbrev main_while0b_cst_49 : Ref sig .tc := ⟨.hbm, 309, rfl⟩
abbrev main_while0b_v155 : Ref sig .tc := ⟨.hbm, 310, rfl⟩
abbrev main_while0b_v156 : Ref sig .tc := ⟨.hbm, 311, rfl⟩
abbrev main_while0b_v157 : Ref sig .tc := ⟨.hbm, 312, rfl⟩
abbrev main_while0b_v158 : Ref sig .tc := ⟨.hbm, 313, rfl⟩
abbrev main_while0b_v159 : Ref sig .tc := ⟨.hbm, 314, rfl⟩
abbrev main_while0b_v160 : Ref sig .tc := ⟨.hbm, 315, rfl⟩
abbrev main_while0b_cst_50 : Ref sig .tc := ⟨.hbm, 316, rfl⟩
abbrev main_while0b_v161 : Ref sig .tc := ⟨.hbm, 317, rfl⟩
abbrev main_while0b_v162 : Ref sig .tc := ⟨.hbm, 318, rfl⟩
abbrev main_while0b_v163 : Ref sig .tc := ⟨.hbm, 319, rfl⟩
abbrev main_while0b_v164 : Ref sig .tc := ⟨.hbm, 320, rfl⟩
abbrev main_while0b_v165 : Ref sig .tc := ⟨.hbm, 321, rfl⟩
abbrev main_while0b_v166 : Ref sig .tc := ⟨.hbm, 322, rfl⟩
abbrev main_while0b_v167 : Ref sig .tc := ⟨.hbm, 323, rfl⟩
abbrev main_while0b_cst_51 : Ref sig .tc := ⟨.hbm, 324, rfl⟩
abbrev main_while0b_v168 : Ref sig .tc := ⟨.hbm, 325, rfl⟩
abbrev main_while0b_v169 : Ref sig .tc := ⟨.hbm, 326, rfl⟩
abbrev main_while0b_v170 : Ref sig .tc := ⟨.hbm, 327, rfl⟩
abbrev main_while0b_v171 : Ref sig .tc := ⟨.hbm, 328, rfl⟩
abbrev main_while0b_v172 : Ref sig .tc := ⟨.hbm, 329, rfl⟩
abbrev main_while0b_v173 : Ref sig .tc := ⟨.hbm, 330, rfl⟩
abbrev main_while0b_cst_52 : Ref sig .tc := ⟨.hbm, 331, rfl⟩
abbrev main_while0b_v174 : Ref sig .tc := ⟨.hbm, 332, rfl⟩
abbrev main_while0b_v175 : Ref sig .tc := ⟨.hbm, 333, rfl⟩
abbrev main_while0b_v176 : Ref sig .tc := ⟨.hbm, 334, rfl⟩
abbrev main_while0b_v177 : Ref sig .tc := ⟨.hbm, 335, rfl⟩
abbrev main_while0b_v178 : Ref sig .tc := ⟨.hbm, 336, rfl⟩
abbrev main_while0b_v179 : Ref sig .tc := ⟨.hbm, 337, rfl⟩
abbrev main_while0b_v180 : Ref sig .tc := ⟨.hbm, 338, rfl⟩
abbrev main_while0b_v181 : Ref sig .tc := ⟨.hbm, 339, rfl⟩
abbrev main_while0b_c_53 : Ref sig .tc := ⟨.hbm, 340, rfl⟩
abbrev main_while0b_v182 : Ref sig .tc := ⟨.hbm, 341, rfl⟩

abbrev nD : Nat := 1
abbrev τ : Topo := Topo.v7x

variable {F : FTy → Type} [FloatOps F]

abbrev main_while0_count : Scf.Loop 32 := ⟨0#32, 32#32, 1#32⟩
-- ==== Proof.Spec.lean ====
/-
  One line of the program, as mathematics: what the registers of one batch row hold after a line, from what they
  held before it. Everything is over the extended reals, on plain functions of coordinates.

  The two programs differ in the last operation only: the kernel adds `w * (value - r)` to a register, the
  reference takes `r * (1 - w) + w * value`. They are `kernelStep` and `refStep`, over the same `weight` and `value`.
-/
module

public import Idealize.ShloMosaic.Lib.Pointwise
public import Idealize.ShloMosaic.Lib.ValueIdx

@[expose] public section

noncomputable section

namespace Cert.Spec

open Idealize.ShloMosaic

/-- The scale of a dot product of vectors of length 1024. -/
def scale : EReal := ((1 / 32 : ℝ) : EReal)

/-- The length of a vector, as the programs' literal. -/
def count : EReal := Ideal.ofBits .f32 0x44800000#32

/-- What a layer norm adds to the variance, as the programs' literal. -/
def eps : EReal := Ideal.ofBits .f32 0x3727C5AC#32

/-- The softmax of a finite family. -/
def soft {n : ℕ} (z : Fin n → EReal) (i : Fin n) : EReal :=
  Ideal.div (Ideal.exp (z i - Finset.univ.sup z)) (∑ j, Ideal.exp (z j - Finset.univ.sup z))

/-- The mean of a vector. -/
def mean (v : Fin 1024 → EReal) : EReal := Ideal.div (∑ d, v d) count

/-- A vector centred and divided by the root of its variance. -/
def unit (v : Fin 1024 → EReal) (d : Fin 1024) : EReal :=
  (v d - mean v) * Ideal.rsqrt (mean (fun e => (v e - mean v) * (v e - mean v)) + eps)

/-- A layer norm: `unit`, scaled and shifted. -/
def norm (g b v : Fin 1024 → EReal) (d : Fin 1024) : EReal := unit v d * g d + b d

/-- A dense layer. -/
def dense (W : Fin 1024 → Fin 1024 → EReal) (b h : Fin 1024 → EReal) (e : Fin 1024) : EReal :=
  (∑ d, h d * W d e) + b e

/-- The scaled products of the registers with a query. -/
def score (r : Fin 64 → Fin 1024 → EReal) (q : Fin 1024 → EReal) (n : Fin 64) : EReal :=
  (∑ d, r n d * q d) * scale

/-- The registers read with a query. -/
def recall (r : Fin 64 → Fin 1024 → EReal) (q : Fin 1024 → EReal) (d : Fin 1024) : EReal :=
  ∑ n, soft (score r q) n * r n d

/-- Where digit `k` of group `l` stands in a row of 1024. -/
def pos (l : Fin 64) (k : Fin 16) : Fin 1024 := ⟨l.val * 16 + k.val, by omega⟩

/-- The groups' digit distributions of a row of logits. -/
def digits (z : Fin 1024 → EReal) (l : Fin 64) (k : Fin 16) : EReal := soft (fun m => z (pos l m)) k

/-- The distribution of the sum of two digits modulo 16. -/
def plus (x y : Fin 64 → Fin 16 → EReal) (l : Fin 64) (m : Fin 16) : EReal := ∑ i, x l i * y l (m - i)

/-- The distribution of the difference of two digits modulo 16. -/
def minus (x y : Fin 64 → Fin 16 → EReal) (l : Fin 64) (m : Fin 16) : EReal := ∑ i, x l (m + i) * y l i

/-- The four instructions' outcomes, weighted by their probabilities. -/
def blend (p : Fin 5 → EReal) (x y : Fin 64 → Fin 16 → EReal) (l : Fin 64) (k : Fin 16) : EReal :=
  p 1 * x l k + p 2 * y l k + p 3 * plus x y l k + p 4 * minus x y l k

/-- The weights of the program: the two operands' layer norms and dense layers, the result's dense layer and
    layer norm. -/
structure Weights where
  (g1 n1 : Fin 1024 → EReal) (W1 : Fin 1024 → Fin 1024 → EReal) (c1 : Fin 1024 → EReal)
  (g2 n2 : Fin 1024 → EReal) (W2 : Fin 1024 → Fin 1024 → EReal) (c2 : Fin 1024 → EReal)
  (Wr : Fin 1024 → Fin 1024 → EReal) (cr : Fin 1024 → EReal) (gf nf : Fin 1024 → EReal)

/-- What one line reads: the instructions' probabilities, two queries, the write key and the gate. -/
structure Line where
  (p : Fin 5 → EReal) (q0 q1 kw : Fin 1024 → EReal) (gate : EReal)

variable (P : Weights) (L : Line) (r : Fin 64 → Fin 1024 → EReal)

/-- The first operand's digits. -/
def opX : Fin 64 → Fin 16 → EReal := digits (dense P.W1 P.c1 (norm P.g1 P.n1 (recall r L.q0)))

/-- The second operand's digits. -/
def opY : Fin 64 → Fin 16 → EReal := digits (dense P.W2 P.c2 (norm P.g2 P.n2 (recall r L.q1)))

/-- The outcome's digits, flattened to a row. -/
def outcome (c : Fin 1024) : EReal :=
  blend L.p (opX P L r) (opY P L r) ⟨c.val / 16, by omega⟩ ⟨c.val % 16, by omega⟩

/-- The vector the line writes. -/
def value : Fin 1024 → EReal := norm P.gf P.nf (dense P.Wr P.cr (outcome P L r))

/-- How much of it the line writes to register `n`. -/
def weight (n : Fin 64) : EReal := soft (score r L.kw) n * (L.gate * (1 - L.p 0))

/-- The registers after the line, in the kernel's form. -/
def kernelStep (n : Fin 64) (d : Fin 1024) : EReal := r n d + weight L r n * (value P L r d - r n d)

/-- The registers after the line, in the reference's form. -/
def refStep (n : Fin 64) (d : Fin 1024) : EReal := r n d * (1 - weight L r n) + weight L r n * value P L r d

end Cert.Spec

end
-- ==== Proof.Words.lean ====
/-
  The kernel's integer coordinates: floor divisions and remainders of small row and column numbers, as the 32-bit word
  operations compute them, and a choice by the equality of two small numbers.
-/
module

public import Idealize.ShloMosaic.Lib.Pointwise

@[expose] public section

noncomputable section

namespace Cert.Words

open Idealize.ShloMosaic

/-- The floor of `a / d`: the truncated quotient, less one where the signs differ and the division is not exact. -/
def floorDiv (a d : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt d 0#32)) (Scalar.extui (Scalar.cmpi .slt d 0#32))))
      (IntOp.cmpi .ne (IntOp.remsi .vector a d) 0#32))
    (IntOp.subi (IntOp.divsi .vector a d) 1#32)
    (IntOp.divsi .vector a d)

/-- The remainder with the divisor's sign. -/
def floorMod (a d : BitVec 32) : BitVec 32 :=
  Scalar.select
    (IntOp.andi (IntOp.xori (IntOp.cmpi .slt (IntOp.remsi .vector a d) 0#32) (Scalar.cmpi .slt d 0#32))
      (IntOp.cmpi .ne (IntOp.remsi .vector a d) 0#32))
    (IntOp.addi (IntOp.remsi .vector a d) d) (IntOp.remsi .vector a d)

/-- The floor quotient by 3 of a column number below 96. -/
theorem floorDiv_three : ∀ c : Fin 96, floorDiv (BitVec.ofNat 32 c.val) 3#32 = BitVec.ofNat 32 (c.val / 3) := by
  decide +kernel

/-- The floor quotient by 2 of a column number below 64. -/
theorem floorDiv_two : ∀ c : Fin 64, floorDiv (BitVec.ofNat 32 c.val) 2#32 = BitVec.ofNat 32 (c.val / 2) := by
  decide +kernel

/-- The floor quotient by 64 of a row number below 2048. -/
theorem floorDiv_row : ∀ r : Fin 2048, floorDiv (BitVec.ofNat 32 r.val) 64#32 = BitVec.ofNat 32 (r.val / 64) := by
  decide +kernel

/-- The floor remainder by 3 of a column number below 96. -/
theorem floorMod_three : ∀ c : Fin 96, floorMod (BitVec.ofNat 32 c.val) 3#32 = BitVec.ofNat 32 (c.val % 3) := by
  decide +kernel

/-- The floor remainder by 2 of a column number below 64. -/
theorem floorMod_two : ∀ c : Fin 64, floorMod (BitVec.ofNat 32 c.val) 2#32 = BitVec.ofNat 32 (c.val % 2) := by
  decide +kernel

/-- Whether two small numbers are equal, as a word. -/
theorem cmpi_eq_ofNat {i j : ℕ} (hi : i < 2 ^ 32) (hj : j < 2 ^ 32) :
    IntOp.cmpi .eq (BitVec.ofNat 32 i) (BitVec.ofNat 32 j) = if i = j then 1#1 else 0#1 := by
  have h : BitVec.ofNat 32 i = BitVec.ofNat 32 j ↔ i = j := by
    rw [← BitVec.toNat_inj, BitVec.toNat_ofNat, BitVec.toNat_ofNat, Nat.mod_eq_of_lt hi, Nat.mod_eq_of_lt hj]
  by_cases e : i = j
  · subst e; simp [IntOp.cmpi]
  · rw [if_neg e]
    show BitVec.ofBool (BitVec.ofNat 32 i == BitVec.ofNat 32 j) = 0#1
    rw [beq_eq_false_iff_ne.2 (fun hc => e (h.1 hc))]
    rfl

/-- A choice by a decided word. -/
theorem select_ite {α : Type} (p : Prop) [Decidable p] (x y : α) :
    Scalar.select (if p then 1#1 else 0#1) x y = if p then x else y := by
  by_cases h : p <;> simp [h, Scalar.select]

/-- The conjunction of the words of two propositions is the word of their conjunction. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

end Cert.Words

end
-- ==== Proof.KernelRead.lean ====
/-
  The kernel's content-based reads, at an index. A block holds 32 batch rows of 64 registers, flattened to 2048 rows;
  the three queries of the 32 batch rows are flattened to 96 rows. The kernel multiplies all rows with all queries,
  keeps a batch row's own products, and takes the softmax over its registers: `attn`. With the first two columns of it
  it reads the registers: `reads`.
-/
module

public import proofs.«01_k».proof.Proof.Gen.KernelIdeal.Skeleton
public import proofs.«01_k».proof.Proof.Spec
public import proofs.«01_k».proof.Proof.Words

@[expose] public section

noncomputable section

namespace Cert.KernelIdeal.Block

open Idealize.ShloMosaic Idealize.SL.Sem Cert.KernelIdeal Cert.KernelIdeal.Gen Cert.Spec Cert.Words

/-- The registers of batch row `b` of a block. -/
def regs (v3 : Vec Ideal S32x64x1024 .f32) (b : Fin 32) (n : Fin 64) (d : Fin 1024) : EReal := v3 (ix3 b n d)

/-- Query `j` of batch row `b`: the two operands' queries, then the write key. -/
def query (v6 : Vec Ideal S32x1x2x1024 .f32) (v8 : Vec Ideal S32x1x1x1024 .f32) (b : Fin 32) (j : Fin 3) (d : Fin 1024) : EReal :=
  if h : j.val < 2 then v6 (ix4 b 0 ⟨j.val, h⟩ d) else v8 (ix4 b 0 0 d)

/-- All products of the flattened registers with the flattened queries. -/
theorem products_apply (v3 : Vec Ideal S32x64x1024 .f32) (v6 : Vec Ideal S32x1x2x1024 .f32) (v8 : Vec Ideal S32x1x1x1024 .f32)
    (b : Fin 32) (n : Fin 64) (c : Fin 96) :
    k0_pay3 v3 v6 v8 (ix2 ⟨b.val * 64 + n.val, by omega⟩ c) =
      ∑ d, regs v3 b n d * query v6 v8 ⟨c.val / 3, by omega⟩ ⟨c.val % 3, by omega⟩ d := by
  unfold k0_pay3 k0_pay2 k0_pay1
  pointwise
  refine Finset.sum_congr rfl fun d _ => ?_
  unfold regs query
  have h1 : (b.val * 64 + n.val) / 64 = b.val := by omega
  have h2 : (b.val * 64 + n.val) % 64 = n.val := by omega
  simp only [h1, h2]

/-- The masked, scaled products. -/
def own (v3 : Vec Ideal S32x64x1024 .f32) (v6 : Vec Ideal S32x1x2x1024 .f32) (v8 : Vec Ideal S32x1x1x1024 .f32) :
    FVec Ideal S2048x96 .f32 :=
  k0_pay6 (k0_pay3 v3 v6 v8) (iota .tc S2048x96 32 [0] iota_S2048x96_d0_w32) k0_pay4 k0_pay5 1#32

/-- The scale literal denotes 1/32. -/
theorem scale_lit : Ideal.ofBits .f32 0x3D000000#32 = scale := by
  simp [scale, Ideal.ofBits, Ideal.ieee, -EReal.coe_mul]; norm_num

/-- The scores at an index, kept where the column belongs to the row's batch row. -/
theorem own_apply (v3 : Vec Ideal S32x64x1024 .f32) (v6 : Vec Ideal S32x1x2x1024 .f32) (v8 : Vec Ideal S32x1x1x1024 .f32)
    (b : Fin 32) (n : Fin 64) (c : Fin 96) :
    own v3 v6 v8 (ix2 ⟨b.val * 64 + n.val, by omega⟩ c) =
      if c.val / 3 = b.val then score (regs v3 b) (query v6 v8 b ⟨c.val % 3, by omega⟩) n else 0 := by
  unfold own k0_pay6 k0_pay4 k0_pay5
  pointwise
  have hc := floorDiv_three c
  have hr := floorDiv_row ⟨b.val * 64 + n.val, by omega⟩
  unfold floorDiv at hc hr
  dsimp only at hr
  rw [hc, hr, cmpi_eq_ofNat (by omega) (by omega), select_ite, show (b.val * 64 + n.val) / 64 = b.val by omega,
    products_apply, scale_lit]
  by_cases h : c.val / 3 = b.val
  · rw [if_pos h, if_pos h]
    have hb : (⟨c.val / 3, by omega⟩ : Fin 32) = b := Fin.ext h
    rw [hb]
    rfl
  · rw [if_neg h, if_neg h]

/-- The attention of the three queries, over the registers. -/
def attn (v3 : Vec Ideal S32x64x1024 .f32) (v6 : Vec Ideal S32x1x2x1024 .f32) (v8 : Vec Ideal S32x1x1x1024 .f32) :
    FVec Ideal S32x64x3 .f32 :=
  k0_pay9 (own v3 v6 v8) (Scalar.select (Scalar.cmpi .eq 3#32 0#32) 1#32 3#32)
    (k0_pay7 (iota .tc S2048x96 32 [1] iota_S2048x96_d1_w32)) (k0_pay8 (iota .tc S2048x96 32 [1] iota_S2048x96_d1_w32))

/-- The one nonzero term of a column sum of the masked products. -/
theorem sum_own (v3 : Vec Ideal S32x64x1024 .f32) (v6 : Vec Ideal S32x1x2x1024 .f32) (v8 : Vec Ideal S32x1x1x1024 .f32)
    (b : Fin 32) (n : Fin 64) (j : ℕ) (hj : j < 3) :
    (∑ c : Fin 96, if c.val % 3 = j then own v3 v6 v8 (ix2 ⟨b.val * 64 + n.val, by omega⟩ c) else 0) =
      score (regs v3 b) (query v6 v8 b ⟨j, hj⟩) n := by
  rw [Finset.sum_eq_single (⟨b.val * 3 + j, by omega⟩ : Fin 96)]
  · have h1 : (b.val * 3 + j) % 3 = j := by omega
    have h2 : (b.val * 3 + j) / 3 = b.val := by omega
    rw [if_pos h1, own_apply, if_pos h2]
    simp only [h1]
  · intro c _ hc
    by_cases h : c.val % 3 = j
    · rw [if_pos h, own_apply, if_neg]
      intro hb
      exact hc (Fin.ext (by simp only; omega))
    · rw [if_neg h]
  · intro h; exact absurd (Finset.mem_univ _) h

/-- A running maximum from minus infinity is the supremum. -/
theorem fold_max_bot {n : ℕ} (f : Fin n → EReal) :
    Finset.fold max (Ideal.ofBits .f32 0xFF800000#32) f Finset.univ = Finset.univ.sup f := by
  rw [show Ideal.ofBits .f32 0xFF800000#32 = (⊥ : EReal) by simp [Ideal.ofBits, Ideal.ieee]]
  rfl

/-- Three columns side by side, read at an index. -/
theorem columns_apply {α : Type} (x y z : S2048x1.Idx → α) (h) (r : Fin 2048) (c : Fin 3) :
    concatenate S2048x3 1 [⟨S2048x1, x⟩, ⟨S2048x1, y⟩, ⟨S2048x1, z⟩] h (ix2 r c) =
      if c.val = 0 then x (ix2 r 0) else if c.val = 1 then y (ix2 r 0) else z (ix2 r 0) := by
  obtain ⟨c, hc⟩ := c
  interval_cases c
  · exact concatenate_apply_piece 1 _ h _ 0 (Nat.zero_lt_succ _) S2048x1 x rfl rfl 0 rfl (ix2 r 0)
      (fun b hb => by fin_cases b <;> first | rfl | exact absurd rfl hb) rfl
  · exact concatenate_apply_piece 1 _ h _ 1 (by simp) S2048x1 y rfl rfl 1 rfl (ix2 r 0)
      (fun b hb => by fin_cases b <;> first | rfl | exact absurd rfl hb) rfl
  · exact concatenate_apply_piece 1 _ h _ 2 (by simp) S2048x1 z rfl rfl 2 rfl (ix2 r 0)
      (fun b hb => by fin_cases b <;> first | rfl | exact absurd rfl hb) rfl

/-- The sum of each row of 96, kept as a column. -/
theorem rowSum_apply (x : FVec Ideal S2048x96 .f32) (h1 h2 h3 h4) (r : Fin 2048) (c : Fin 1) :
    shapeCast S2048x1 (multiReduction .add [1] S2048 x 0x00000000#32 h1 h2 h3 : FVec Ideal S2048 .f32) h4 (ix2 r c) = ∑ k, x (ix2 r k) := by
  pointwise

/-- The softmax of each column of a block of three columns, over the 64 rows of a batch row. -/
theorem attn_apply (v3 : Vec Ideal S32x64x1024 .f32) (v6 : Vec Ideal S32x1x2x1024 .f32) (v8 : Vec Ideal S32x1x1x1024 .f32)
    (b : Fin 32) (n : Fin 64) (j : Fin 3) :
    attn v3 v6 v8 (ix3 b n j) = soft (score (regs v3 b) (query v6 v8 b j)) n := by
  have hsel : Scalar.select (Scalar.cmpi .eq 3#32 0#32) 1#32 3#32 = 3#32 := by decide
  have hc := floorMod_three
  unfold floorMod at hc
  have key : ∀ m : Fin 64, ∀ k : ℕ, (hk : k < 3) → (∑ c : Fin 96, Scalar.select (IntOp.cmpi .eq (BitVec.ofNat 32 (c.val % 3)) (BitVec.ofNat 32 k))
      (own v3 v6 v8 (ix2 ⟨b.val * 64 + m.val, by omega⟩ c)) 0) = score (regs v3 b) (query v6 v8 b ⟨k, hk⟩) m := by
    intro m k hk
    rw [← sum_own]
    refine Finset.sum_congr rfl fun c _ => ?_
    rw [cmpi_eq_ofNat (by omega) (by omega), select_ite]
  unfold attn k0_pay9 k0_pay8 k0_pay7
  rw [hsel]
  dsimp only
  generalize hM : (concatenate S2048x3 1 _ _ : FVec Ideal S2048x3 .f32) = M
  have hm : ∀ m : Fin 64, M (ix2 ⟨b.val * 64 + m.val, by omega⟩ j) = score (regs v3 b) (query v6 v8 b j) m := by
    intro m
    rw [← hM, columns_apply]
    clear hM
    obtain ⟨j, hj⟩ := j
    interval_cases j
    · rw [if_pos rfl]
      refine (rowSum_apply _ _ _ _ _ _ _).trans ?_
      refine Eq.trans (Finset.sum_congr rfl fun c _ => ?_) (key m 0 (by omega))
      pointwise
      simp only [hsel, hc]
    · rw [if_neg (by simp), if_pos rfl]
      refine (rowSum_apply _ _ _ _ _ _ _).trans ?_
      refine Eq.trans (Finset.sum_congr rfl fun c _ => ?_) (key m 1 (by omega))
      pointwise
      simp only [hsel, hc]
    · rw [if_neg (by simp), if_neg (by simp)]
      refine (rowSum_apply _ _ _ _ _ _ _).trans ?_
      refine Eq.trans (Finset.sum_congr rfl fun c _ => ?_) (key m 2 (by omega))
      pointwise
      simp only [hsel, hc]
  pointwise
  simp only [hm, fold_max_bot]
  rfl

end Cert.KernelIdeal.Block

end
-- ==== Proof.KernelNorm.lean ====
/-
  The kernel's reads of the registers, their layer norms and the two dense layers, at an index.
-/
module

public import proofs.«01_k».proof.Proof.KernelRead

@[expose] public section

noncomputable section

namespace Cert.KernelIdeal.Block

open Idealize.ShloMosaic Idealize.SL.Sem Cert.KernelIdeal Cert.KernelIdeal.Gen Cert.Spec Cert.Words

/-- A sum over the 2048 rows whose terms vanish outside batch row `b` is the sum over the 64 rows of `b`. -/
theorem sum_rows (f : Fin 2048 → EReal) (b : Fin 32) (hf : ∀ x : Fin 2048, x.val / 64 ≠ b.val → f x = 0) :
    ∑ x, f x = ∑ n : Fin 64, f ⟨b.val * 64 + n.val, by omega⟩ := by
  refine (Finset.sum_of_injOn (fun n : Fin 64 => (⟨b.val * 64 + n.val, by omega⟩ : Fin 2048)) ?_ ?_ ?_ ?_).symm
  · intro m _ n _ h
    have := congrArg Fin.val h
    exact Fin.ext (by simp only at this; omega)
  · intro n _; exact Finset.mem_coe.2 (Finset.mem_univ _)
  · intro x _ hx
    refine hf x fun h => hx ⟨⟨x.val % 64, by omega⟩, Finset.mem_coe.2 (Finset.mem_univ _), Fin.ext ?_⟩
    simp only; omega
  · intro n _; rfl

/-- The two reads of a block, from the flattened registers and the flattened attention. -/
def reads (v5 : FVec Ideal S2048x1024 .f32) (v113 : FVec Ideal S2048x3 .f32) : FVec Ideal S32x2x1024 .f32 :=
  k0_pay16 v5 v113 (iota .tc S2048x64 32 [1] iota_S2048x64_d1_w32)
    (k0_pay13 (iota .tc S2048x64 32 [0] iota_S2048x64_d0_w32) (iota .tc S2048x64 32 [1] iota_S2048x64_d1_w32) 2#32
      k0_pay11 k0_pay12 (Scalar.cmpi .sgt 2#32 0#32))
    (Scalar.select (Scalar.cmpi .eq 2#32 0#32) 1#32 2#32)
    (k0_pay14 (iota .tc S2048x64 32 [1] iota_S2048x64_d1_w32)) (k0_pay15 (iota .tc S2048x64 32 [1] iota_S2048x64_d1_w32)) 0#32

/-- Which rows a column of the reads takes: those of its own batch row. -/
theorem rows_apply (x : Fin 2048) (c : Fin 64) :
    k0_pay13 (iota .tc S2048x64 32 [0] iota_S2048x64_d0_w32) (iota .tc S2048x64 32 [1] iota_S2048x64_d1_w32) 2#32
      k0_pay11 k0_pay12 (Scalar.cmpi .sgt 2#32 0#32) (ix2 x c) = if c.val / 2 = x.val / 64 then 1#1 else 0#1 := by
  have hc := floorDiv_two c
  have hr := floorDiv_row x
  unfold floorDiv at hc hr
  unfold k0_pay13 k0_pay11 k0_pay12
  pointwise
  rw [hc, hr, cmpi_eq_ofNat (by omega) (by omega)]

/-- The masked attention matrix times the registers, at an index: only a batch row's own registers add to its reads. -/
theorem masked_apply (v5 : FVec Ideal S2048x1024 .f32) (v113 : FVec Ideal S2048x3 .f32) (R : IVec S2048x64 1)
    (hR : ∀ x c, R (ix2 x c) = if c.val / 2 = x.val / 64 then 1#1 else 0#1) (b : Fin 32) (j : Fin 2) (d : Fin 1024) :
    k0_pay16 v5 v113 (iota .tc S2048x64 32 [1] iota_S2048x64_d1_w32) R
      (Scalar.select (Scalar.cmpi .eq 2#32 0#32) 1#32 2#32)
      (k0_pay14 (iota .tc S2048x64 32 [1] iota_S2048x64_d1_w32)) (k0_pay15 (iota .tc S2048x64 32 [1] iota_S2048x64_d1_w32)) 0#32
      (ix3 b j d) =
      ∑ n : Fin 64, v113 (ix2 ⟨b.val * 64 + n.val, by omega⟩ ⟨j.val, by omega⟩) * v5 (ix2 ⟨b.val * 64 + n.val, by omega⟩ d) := by
  have hsel : Scalar.select (Scalar.cmpi .eq 2#32 0#32) 1#32 2#32 = 2#32 := by decide
  have hj : (b.val * 2 + j.val) % 2 = j.val := by omega
  have hb : (b.val * 2 + j.val) / 2 = b.val := by omega
  have hm := floorMod_two ⟨b.val * 2 + j.val, by omega⟩
  unfold floorMod at hm
  simp only [hj] at hm
  have h0 : IntOp.cmpi .eq (BitVec.ofNat 32 j.val) 0#32 = if j.val = 0 then 1#1 else 0#1 :=
    cmpi_eq_ofNat (j := 0) (by omega) (by omega)
  have h1 : IntOp.cmpi .eq (BitVec.ofNat 32 j.val) 1#32 = if j.val = 1 then 1#1 else 0#1 :=
    cmpi_eq_ofNat (j := 1) (by omega) (by omega)
  unfold k0_pay16 k0_pay15 k0_pay14
  pointwise
  simp only [hsel, hm, hR, hb, h0, h1, andi_ite, select_ite]
  rw [sum_rows _ b]
  · refine Finset.sum_congr rfl fun n _ => ?_
    have hn : (b.val * 64 + n.val) / 64 = b.val := by omega
    simp only [hn]
    obtain ⟨j, hj2⟩ := j
    interval_cases j <;> simp
  · intro x hx
    rw [if_neg (fun h => hx h.1.symm), if_neg (fun h => hx h.1.symm)]
    simp

/-- The reads at an index: the product, over a batch row's registers, of attention and register. -/
theorem reads_apply (v5 : FVec Ideal S2048x1024 .f32) (v113 : FVec Ideal S2048x3 .f32) (b : Fin 32) (j : Fin 2) (d : Fin 1024) :
    reads v5 v113 (ix3 b j d) =
      ∑ n : Fin 64, v113 (ix2 ⟨b.val * 64 + n.val, by omega⟩ ⟨j.val, by omega⟩) * v5 (ix2 ⟨b.val * 64 + n.val, by omega⟩ d) :=
  masked_apply v5 v113 _ rows_apply b j d

/-- The reads, centred and divided by the roots of their variances. -/
theorem unit_apply (v215 : FVec Ideal S32x2x1024 .f32) (v217 : FVec Ideal S32x2x1 .f32)
    (h : ∀ b j, v217 (ix3 b j 0) = ∑ d, v215 (ix3 b j d)) (b : Fin 32) (j : Fin 2) (d : Fin 1024) :
    k0_pay18 v215 v217 (ix3 b j d) = unit (fun d => v215 (ix3 b j d)) d := by
  unfold k0_pay18
  pointwise
  simp only [h]
  rfl

/-- The sums of the reads. -/
theorem sums_apply (v5 : FVec Ideal S2048x1024 .f32) (v113 : FVec Ideal S2048x3 .f32) (v115 v164 v166 v168 v170 v)
    (b : Fin 32) (j : Fin 2) (z : Fin 1) :
    k0_pay17 v5 v113 v115 v164 v166 v168 v170 v (ix3 b j z) = ∑ d, k0_pay16 v5 v113 v115 v164 v166 v168 v170 v (ix3 b j d) := by
  unfold k0_pay17
  pointwise

/-- The second operand's read after its layer norm. -/
theorem normY_apply (v215 : FVec Ideal S32x2x1024 .f32) (v217 : FVec Ideal S32x2x1 .f32) (g n : Vec Ideal S1x1024 .f32)
    (h : ∀ b j, v217 (ix3 b j 0) = ∑ d, v215 (ix3 b j d)) (b : Fin 32) (d : Fin 1024) :
    k0_pay19 v215 v217 g n (ix2 b d) = norm (fun d => g (ix2 0 d)) (fun d => n (ix2 0 d)) (fun d => v215 (ix3 b 1 d)) d := by
  unfold k0_pay19
  pointwise
  rw [show k0_pay18 v215 v217 _ = _ from unit_apply v215 v217 h b 1 d]
  rfl

/-- The first operand's logits. -/
theorem logitsX_apply (v215 : FVec Ideal S32x2x1024 .f32) (v217 : FVec Ideal S32x2x1 .f32) (g n : Vec Ideal S1x1024 .f32)
    (w : Vec Ideal S1024x1024 .f32) (c : Vec Ideal S1x1024 .f32)
    (h : ∀ b j, v217 (ix3 b j 0) = ∑ d, v215 (ix3 b j d)) (b : Fin 32) (e : Fin 1024) :
    k0_pay20 v215 v217 g n w c (ix2 b e) = dense (fun d e => w (ix2 d e)) (fun e => c (ix2 0 e))
      (norm (fun d => g (ix2 0 d)) (fun d => n (ix2 0 d)) (fun d => v215 (ix3 b 0 d))) e := by
  unfold k0_pay20
  pointwise
  refine congrArg₂ (· + ·) (Finset.sum_congr rfl fun d _ => ?_) rfl
  rw [show k0_pay18 v215 v217 _ = _ from unit_apply v215 v217 h b 0 d]
  rfl

/-- The second operand's logits. -/
theorem logitsY_apply (v251 : FVec Ideal S32x1024 .f32) (w : Vec Ideal S1024x1024 .f32) (c : Vec Ideal S1x1024 .f32)
    (b : Fin 32) (e : Fin 1024) :
    k0_pay21 v251 w c (ix2 b e) = dense (fun d e => w (ix2 d e)) (fun e => c (ix2 0 e)) (fun d => v251 (ix2 b d)) e := by
  unfold k0_pay21
  pointwise
  rfl

end Cert.KernelIdeal.Block

end
-- ==== Proof.KernelRoll.lean ====
/-
  The kernel's digit rows. A row of 1024 holds 16 digits of 64 groups, digit-major: digit `k` of group `l` stands at
  `kpos k l = 64 k + l`. A rotation of the row by `64 i` moves every group's digits by `i` modulo 16 (`roll`), and a
  repeated piece of 64 gives every digit one digit's values (`tile`).
-/
module

public import proofs.«01_k».proof.Proof.Gen.KernelIdeal.Skeleton
public import proofs.«01_k».proof.Proof.Spec
public import Idealize.ShloMosaic.Lib.Pointwise
public import Idealize.ShloMosaic.Lib.Pipeline.Value

@[expose] public section

noncomputable section

namespace Cert.KernelIdeal.Block

open Idealize.ShloMosaic Idealize.SL.Sem Cert.KernelIdeal Cert.KernelIdeal.Gen Cert.Spec

/-- Where digit `k` of group `l` stands in the kernel's rows. -/
def kpos (k : Fin 16) (l : Fin 64) : Fin 1024 := ⟨64 * k.val + l.val, by omega⟩

/-- Every position is the place of its digit and group. -/
theorem kpos_div_mod (e : Fin 1024) : kpos ⟨e.val / 64, by omega⟩ ⟨e.val % 64, by omega⟩ = e :=
  Fin.ext (by simp only [kpos]; omega)

/-- A row whose digits are moved by `i`. -/
def roll (i : Fin 16) (v : FVec Ideal S32x1024 .f32) : FVec Ideal S32x1024 .f32 := fun j =>
  v (ix2 (j 0) (kpos ((⟨(j 1).val / 64, by have := (j 1).isLt; simp at this; omega⟩ : Fin 16) - i)
    ⟨(j 1).val % 64, by omega⟩))

/-- A row whose digits all are digit `i`. -/
def tile (i : Fin 16) (v : FVec Ideal S32x1024 .f32) : FVec Ideal S32x1024 .f32 := fun j =>
  v (ix2 (j 0) (kpos i ⟨(j 1).val % 64, by omega⟩))

/-- A row with moved digits, read at a place. -/
theorem roll_kpos (i : Fin 16) (v : FVec Ideal S32x1024 .f32) (b : Fin 32) (k : Fin 16) (l : Fin 64) :
    roll i v (ix2 b (kpos k l)) = v (ix2 b (kpos (k - i) l)) := by
  have h1 : (⟨(kpos k l).val / 64, by omega⟩ : Fin 16) = k := Fin.ext (by simp only [kpos]; omega)
  have h2 : (⟨(kpos k l).val % 64, by omega⟩ : Fin 64) = l := Fin.ext (by simp only [kpos]; omega)
  show v (ix2 b (kpos ((⟨(kpos k l).val / 64, _⟩ : Fin 16) - i) ⟨(kpos k l).val % 64, _⟩)) = _
  rw [h1, h2]

/-- A row whose digits all are digit `i`, read at a place. -/
theorem tile_kpos (i : Fin 16) (v : FVec Ideal S32x1024 .f32) (b : Fin 32) (k : Fin 16) (l : Fin 64) :
    tile i v (ix2 b (kpos k l)) = v (ix2 b (kpos i l)) := by
  have h2 : (⟨(kpos k l).val % 64, by omega⟩ : Fin 64) = l := Fin.ext (by simp only [kpos]; omega)
  show v (ix2 b (kpos i ⟨(kpos k l).val % 64, _⟩)) = _
  rw [h2]

/-- The last `p` columns of a row, then the first `q`. -/
theorem roll_eq {p q : ℕ} (i : Fin 16) (hp : p = 64 * i.val) (hpq : p + q = 1024) (v : FVec Ideal S32x1024 .f32) (h1 h2 h) :
    concatenate S32x1024 1 [⟨⟨2, ![32, p]⟩, extractStridedSlice ⟨2, ![32, p]⟩ ![0, q] v h1⟩,
      ⟨⟨2, ![32, q]⟩, extractStridedSlice ⟨2, ![32, q]⟩ ![0, 0] v h2⟩] h = roll i v := by
  funext j
  obtain ⟨b, c, rfl⟩ : ∃ b c, j = ix2 b c := ⟨j 0, j 1, by funext a; fin_cases a <;> rfl⟩
  obtain ⟨k, l, rfl⟩ : ∃ k l, c = kpos k l := ⟨_, _, (kpos_div_mod c).symm⟩
  rw [roll_kpos]
  by_cases hlt : 64 * k.val + l.val < p
  · rw [concatenate_pair_apply_left 1 _ _ h (ix2 b (kpos k l)) rfl (ix2 b ⟨64 * k.val + l.val, hlt⟩)
      (fun a => by fin_cases a <;> rfl)]
    unfold extractStridedSlice
    refine congrArg v (funext fun a => Fin.ext ?_)
    fin_cases a
    · simp
    · simp [kpos, Fin.sub_def]
      omega
  · rw [concatenate_pair_apply_right 1 _ _ h (ix2 b (kpos k l)) rfl rfl
      (ix2 b ⟨64 * k.val + l.val - p, by omega⟩)
      (fun a ha => by fin_cases a <;> first | rfl | exact (ha rfl).elim)
      (by simp [kpos]; omega)]
    unfold extractStridedSlice
    refine congrArg v (funext fun a => Fin.ext ?_)
    fin_cases a
    · simp
    · simp [kpos, Fin.sub_def]
      omega

/-- The last 64 columns of a row, then the others: the digits moved by 1. -/
theorem roll_1 (v : FVec Ideal S32x1024 .f32) (h1 h2 h) :
    concatenate S32x1024 1 [⟨S32x64, extractStridedSlice S32x64 ![0, 960] v h1⟩,
      ⟨S32x960, extractStridedSlice S32x960 ![0, 0] v h2⟩] h = roll 1 v :=
  roll_eq 1 rfl rfl v h1 h2 h

/-- The last 128 columns of a row, then the others: the digits moved by 2. -/
theorem roll_2 (v : FVec Ideal S32x1024 .f32) (h1 h2 h) :
    concatenate S32x1024 1 [⟨S32x128, extractStridedSlice S32x128 ![0, 896] v h1⟩,
      ⟨S32x896, extractStridedSlice S32x896 ![0, 0] v h2⟩] h = roll 2 v :=
  roll_eq 2 rfl rfl v h1 h2 h

/-- The last 192 columns of a row, then the others: the digits moved by 3. -/
theorem roll_3 (v : FVec Ideal S32x1024 .f32) (h1 h2 h) :
    concatenate S32x1024 1 [⟨S32x192, extractStridedSlice S32x192 ![0, 832] v h1⟩,
      ⟨S32x832, extractStridedSlice S32x832 ![0, 0] v h2⟩] h = roll 3 v :=
  roll_eq 3 rfl rfl v h1 h2 h

/-- The last 256 columns of a row, then the others: the digits moved by 4. -/
theorem roll_4 (v : FVec Ideal S32x1024 .f32) (h1 h2 h) :
    concatenate S32x1024 1 [⟨S32x256, extractStridedSlice S32x256 ![0, 768] v h1⟩,
      ⟨S32x768, extractStridedSlice S32x768 ![0, 0] v h2⟩] h = roll 4 v :=
  roll_eq 4 rfl rfl v h1 h2 h

/-- The last 320 columns of a row, then the others: the digits moved by 5. -/
theorem roll_5 (v : FVec Ideal S32x1024 .f32) (h1 h2 h) :
    concatenate S32x1024 1 [⟨S32x320, extractStridedSlice S32x320 ![0, 704] v h1⟩,
      ⟨S32x704, extractStridedSlice S32x704 ![0, 0] v h2⟩] h = roll 5 v :=
  roll_eq 5 rfl rfl v h1 h2 h

/-- The last 384 columns of a row, then the others: the digits moved by 6. -/
theorem roll_6 (v : FVec Ideal S32x1024 .f32) (h1 h2 h) :
    concatenate S32x1024 1 [⟨S32x384, extractStridedSlice S32x384 ![0, 640] v h1⟩,
      ⟨S32x640, extractStridedSlice S32x640 ![0, 0] v h2⟩] h = roll 6 v :=
  roll_eq 6 rfl rfl v h1 h2 h

/-- The last 448 columns of a row, then the others: the digits moved by 7. -/
theorem roll_7 (v : FVec Ideal S32x1024 .f32) (h1 h2 h) :
    concatenate S32x1024 1 [⟨S32x448, extractStridedSlice S32x448 ![0, 576] v h1⟩,
      ⟨S32x576, extractStridedSlice S32x576 ![0, 0] v h2⟩] h = roll 7 v :=
  roll_eq 7 rfl rfl v h1 h2 h

/-- The last 512 columns of a row, then the others: the digits moved by 8. -/
theorem roll_8 (v : FVec Ideal S32x1024 .f32) (h1 h2 h) :
    concatenate S32x1024 1 [⟨S32x512, extractStridedSlice S32x512 ![0, 512] v h1⟩,
      ⟨S32x512, extractStridedSlice S32x512 ![0, 0] v h2⟩] h = roll 8 v :=
  roll_eq 8 rfl rfl v h1 h2 h

/-- The last 576 columns of a row, then the others: the digits moved by 9. -/
theorem roll_9 (v : FVec Ideal S32x1024 .f32) (h1 h2 h) :
    concatenate S32x1024 1 [⟨S32x576, extractStridedSlice S32x576 ![0, 448] v h1⟩,
      ⟨S32x448, extractStridedSlice S32x448 ![0, 0] v h2⟩] h = roll 9 v :=
  roll_eq 9 rfl rfl v h1 h2 h

/-- The last 640 columns of a row, then the others: the digits moved by 10. -/
theorem roll_10 (v : FVec Ideal S32x1024 .f32) (h1 h2 h) :
    concatenate S32x1024 1 [⟨S32x640, extractStridedSlice S32x640 ![0, 384] v h1⟩,
      ⟨S32x384, extractStridedSlice S32x384 ![0, 0] v h2⟩] h = roll 10 v :=
  roll_eq 10 rfl rfl v h1 h2 h

/-- The last 704 columns of a row, then the others: the digits moved by 11. -/
theorem roll_11 (v : FVec Ideal S32x1024 .f32) (h1 h2 h) :
    concatenate S32x1024 1 [⟨S32x704, extractStridedSlice S32x704 ![0, 320] v h1⟩,
      ⟨S32x320, extractStridedSlice S32x320 ![0, 0] v h2⟩] h = roll 11 v :=
  roll_eq 11 rfl rfl v h1 h2 h

/-- The last 768 columns of a row, then the others: the digits moved by 12. -/
theorem roll_12 (v : FVec Ideal S32x1024 .f32) (h1 h2 h) :
    concatenate S32x1024 1 [⟨S32x768, extractStridedSlice S32x768 ![0, 256] v h1⟩,
      ⟨S32x256, extractStridedSlice S32x256 ![0, 0] v h2⟩] h = roll 12 v :=
  roll_eq 12 rfl rfl v h1 h2 h

/-- The last 832 columns of a row, then the others: the digits moved by 13. -/
theorem roll_13 (v : FVec Ideal S32x1024 .f32) (h1 h2 h) :
    concatenate S32x1024 1 [⟨S32x832, extractStridedSlice S32x832 ![0, 192] v h1⟩,
      ⟨S32x192, extractStridedSlice S32x192 ![0, 0] v h2⟩] h = roll 13 v :=
  roll_eq 13 rfl rfl v h1 h2 h

/-- The last 896 columns of a row, then the others: the digits moved by 14. -/
theorem roll_14 (v : FVec Ideal S32x1024 .f32) (h1 h2 h) :
    concatenate S32x1024 1 [⟨S32x896, extractStridedSlice S32x896 ![0, 128] v h1⟩,
      ⟨S32x128, extractStridedSlice S32x128 ![0, 0] v h2⟩] h = roll 14 v :=
  roll_eq 14 rfl rfl v h1 h2 h

/-- The last 960 columns of a row, then the others: the digits moved by 15. -/
theorem roll_15 (v : FVec Ideal S32x1024 .f32) (h1 h2 h) :
    concatenate S32x1024 1 [⟨S32x960, extractStridedSlice S32x960 ![0, 64] v h1⟩,
      ⟨S32x64, extractStridedSlice S32x64 ![0, 0] v h2⟩] h = roll 15 v :=
  roll_eq 15 rfl rfl v h1 h2 h

/-- A piece of 64 columns, repeated 16 times. -/
theorem tile_eq (o : ℕ) (i : Fin 16) (ho : o = 64 * i.val) (v : FVec Ideal S32x1024 .f32) (h1 h2 h3 h4 h5) :
    shapeCast S32x1024 (broadcastTo S32x16x64 (shapeCast S32x1x64 (shapeCast S32x1x64
      (extractStridedSlice S32x64 ![0, o] v h1) h2) h3) h4) h5 = tile i v := by
  funext j
  obtain ⟨b, c, rfl⟩ : ∃ b c, j = ix2 b c := ⟨j 0, j 1, by funext a; fin_cases a <;> rfl⟩
  obtain ⟨k, l, rfl⟩ : ∃ k l, c = kpos k l := ⟨_, _, (kpos_div_mod c).symm⟩
  rw [tile_kpos]
  pointwise
  refine congrArg v (funext fun a => Fin.ext ?_)
  fin_cases a
  · simp [kpos]
  · simp [kpos, ho]

/-- Columns 0 to 63 of a row, sixteen times over: every digit is digit 0. -/
theorem tile_0 (v : FVec Ideal S32x1024 .f32) (h1 h2 h3 h4 h5) :
    shapeCast S32x1024 (broadcastTo S32x16x64 (shapeCast S32x1x64 (shapeCast S32x1x64
      (extractStridedSlice S32x64 ![0, 0] v h1) h2) h3) h4) h5 = tile 0 v :=
  tile_eq 0 0 rfl v h1 h2 h3 h4 h5

/-- Columns 64 to 127 of a row, sixteen times over: every digit is digit 1. -/
theorem tile_1 (v : FVec Ideal S32x1024 .f32) (h1 h2 h3 h4 h5) :
    shapeCast S32x1024 (broadcastTo S32x16x64 (shapeCast S32x1x64 (shapeCast S32x1x64
      (extractStridedSlice S32x64 ![0, 64] v h1) h2) h3) h4) h5 = tile 1 v :=
  tile_eq 64 1 rfl v h1 h2 h3 h4 h5

/-- Columns 128 to 191 of a row, sixteen times over: every digit is digit 2. -/
theorem tile_2 (v : FVec Ideal S32x1024 .f32) (h1 h2 h3 h4 h5) :
    shapeCast S32x1024 (broadcastTo S32x16x64 (shapeCast S32x1x64 (shapeCast S32x1x64
      (extractStridedSlice S32x64 ![0, 128] v h1) h2) h3) h4) h5 = tile 2 v :=
  tile_eq 128 2 rfl v h1 h2 h3 h4 h5

/-- Columns 192 to 255 of a row, sixteen times over: every digit is digit 3. -/
theorem tile_3 (v : FVec Ideal S32x1024 .f32) (h1 h2 h3 h4 h5) :
    shapeCast S32x1024 (broadcastTo S32x16x64 (shapeCast S32x1x64 (shapeCast S32x1x64
      (extractStridedSlice S32x64 ![0, 192] v h1) h2) h3) h4) h5 = tile 3 v :=
  tile_eq 192 3 rfl v h1 h2 h3 h4 h5

/-- Columns 256 to 319 of a row, sixteen times over: every digit is digit 4. -/
theorem tile_4 (v : FVec Ideal S32x1024 .f32) (h1 h2 h3 h4 h5) :
    shapeCast S32x1024 (broadcastTo S32x16x64 (shapeCast S32x1x64 (shapeCast S32x1x64
      (extractStridedSlice S32x64 ![0, 256] v h1) h2) h3) h4) h5 = tile 4 v :=
  tile_eq 256 4 rfl v h1 h2 h3 h4 h5

/-- Columns 320 to 383 of a row, sixteen times over: every digit is digit 5. -/
theorem tile_5 (v : FVec Ideal S32x1024 .f32) (h1 h2 h3 h4 h5) :
    shapeCast S32x1024 (broadcastTo S32x16x64 (shapeCast S32x1x64 (shapeCast S32x1x64
      (extractStridedSlice S32x64 ![0, 320] v h1) h2) h3) h4) h5 = tile 5 v :=
  tile_eq 320 5 rfl v h1 h2 h3 h4 h5

/-- Columns 384 to 447 of a row, sixteen times over: every digit is digit 6. -/
theorem tile_6 (v : FVec Ideal S32x1024 .f32) (h1 h2 h3 h4 h5) :
    shapeCast S32x1024 (broadcastTo S32x16x64 (shapeCast S32x1x64 (shapeCast S32x1x64
      (extractStridedSlice S32x64 ![0, 384] v h1) h2) h3) h4) h5 = tile 6 v :=
  tile_eq 384 6 rfl v h1 h2 h3 h4 h5

/-- Columns 448 to 511 of a row, sixteen times over: every digit is digit 7. -/
theorem tile_7 (v : FVec Ideal S32x1024 .f32) (h1 h2 h3 h4 h5) :
    shapeCast S32x1024 (broadcastTo S32x16x64 (shapeCast S32x1x64 (shapeCast S32x1x64
      (extractStridedSlice S32x64 ![0, 448] v h1) h2) h3) h4) h5 = tile 7 v :=
  tile_eq 448 7 rfl v h1 h2 h3 h4 h5

/-- Columns 512 to 575 of a row, sixteen times over: every digit is digit 8. -/
theorem tile_8 (v : FVec Ideal S32x1024 .f32) (h1 h2 h3 h4 h5) :
    shapeCast S32x1024 (broadcastTo S32x16x64 (shapeCast S32x1x64 (shapeCast S32x1x64
      (extractStridedSlice S32x64 ![0, 512] v h1) h2) h3) h4) h5 = tile 8 v :=
  tile_eq 512 8 rfl v h1 h2 h3 h4 h5

/-- Columns 576 to 639 of a row, sixteen times over: every digit is digit 9. -/
theorem tile_9 (v : FVec Ideal S32x1024 .f32) (h1 h2 h3 h4 h5) :
    shapeCast S32x1024 (broadcastTo S32x16x64 (shapeCast S32x1x64 (shapeCast S32x1x64
      (extractStridedSlice S32x64 ![0, 576] v h1) h2) h3) h4) h5 = tile 9 v :=
  tile_eq 576 9 rfl v h1 h2 h3 h4 h5

/-- Columns 640 to 703 of a row, sixteen times over: every digit is digit 10. -/
theorem tile_10 (v : FVec Ideal S32x1024 .f32) (h1 h2 h3 h4 h5) :
    shapeCast S32x1024 (broadcastTo S32x16x64 (shapeCast S32x1x64 (shapeCast S32x1x64
      (extractStridedSlice S32x64 ![0, 640] v h1) h2) h3) h4) h5 = tile 10 v :=
  tile_eq 640 10 rfl v h1 h2 h3 h4 h5

/-- Columns 704 to 767 of a row, sixteen times over: every digit is digit 11. -/
theorem tile_11 (v : FVec Ideal S32x1024 .f32) (h1 h2 h3 h4 h5) :
    shapeCast S32x1024 (broadcastTo S32x16x64 (shapeCast S32x1x64 (shapeCast S32x1x64
      (extractStridedSlice S32x64 ![0, 704] v h1) h2) h3) h4) h5 = tile 11 v :=
  tile_eq 704 11 rfl v h1 h2 h3 h4 h5

/-- Columns 768 to 831 of a row, sixteen times over: every digit is digit 12. -/
theorem tile_12 (v : FVec Ideal S32x1024 .f32) (h1 h2 h3 h4 h5) :
    shapeCast S32x1024 (broadcastTo S32x16x64 (shapeCast S32x1x64 (shapeCast S32x1x64
      (extractStridedSlice S32x64 ![0, 768] v h1) h2) h3) h4) h5 = tile 12 v :=
  tile_eq 768 12 rfl v h1 h2 h3 h4 h5

/-- Columns 832 to 895 of a row, sixteen times over: every digit is digit 13. -/
theorem tile_13 (v : FVec Ideal S32x1024 .f32) (h1 h2 h3 h4 h5) :
    shapeCast S32x1024 (broadcastTo S32x16x64 (shapeCast S32x1x64 (shapeCast S32x1x64
      (extractStridedSlice S32x64 ![0, 832] v h1) h2) h3) h4) h5 = tile 13 v :=
  tile_eq 832 13 rfl v h1 h2 h3 h4 h5

/-- Columns 896 to 959 of a row, sixteen times over: every digit is digit 14. -/
theorem tile_14 (v : FVec Ideal S32x1024 .f32) (h1 h2 h3 h4 h5) :
    shapeCast S32x1024 (broadcastTo S32x16x64 (shapeCast S32x1x64 (shapeCast S32x1x64
      (extractStridedSlice S32x64 ![0, 896] v h1) h2) h3) h4) h5 = tile 14 v :=
  tile_eq 896 14 rfl v h1 h2 h3 h4 h5

/-- Columns 960 to 1023 of a row, sixteen times over: every digit is digit 15. -/
theorem tile_15 (v : FVec Ideal S32x1024 .f32) (h1 h2 h3 h4 h5) :
    shapeCast S32x1024 (broadcastTo S32x16x64 (shapeCast S32x1x64 (shapeCast S32x1x64
      (extractStridedSlice S32x64 ![0, 960] v h1) h2) h3) h4) h5 = tile 15 v :=
  tile_eq 960 15 rfl v h1 h2 h3 h4 h5

end Cert.KernelIdeal.Block

end
-- ==== Proof.KernelDigits.lean ====
/-
  The digit distributions of the kernel's rows, at the position of a digit of a group.
-/
module

public import proofs.«01_k».proof.Proof.KernelRoll

@[expose] public section

noncomputable section

namespace Cert.KernelIdeal.Block

open Idealize.ShloMosaic Idealize.SL.Sem Cert.KernelIdeal Cert.KernelIdeal.Gen Cert.Spec

/-- A sum over the 16 digits, written out. -/
theorem sum16 (g : Fin 16 → EReal) : ∑ j, g j = g 0 + g 1 + g 2 + g 3 + g 4 + g 5 + g 6 + g 7 + g 8 + g 9 + g 10 + g 11 + g 12 + g 13 + g 14 + g 15 := by
  simp only [Fin.sum_univ_castSucc, Fin.sum_univ_zero, zero_add]
  rfl

/-- A maximum over the 16 digits, written out. -/
theorem sup16 (g : Fin 16 → EReal) : Finset.univ.sup g = max (max (max (max (max (max (max (max (max (max (max (max (max (max (max (g 0) (g 1)) (g 2)) (g 3)) (g 4)) (g 5)) (g 6)) (g 7)) (g 8)) (g 9)) (g 10)) (g 11)) (g 12)) (g 13)) (g 14)) (g 15) := by
  apply le_antisymm
  · refine Finset.sup_le fun j _ => ?_
    fin_cases j <;> simp
  · simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact Finset.le_sup (f := g) (Finset.mem_univ _)

/-- Subtracting two digits in turn is subtracting their sum. -/
theorem sub_sub16 (a b c : Fin 16) : a - b - c = a - (b + c) := sub_sub a b c

/-- Subtracting the digit zero changes nothing. -/
theorem sub_zero16 (a : Fin 16) : a - 0 = a := sub_zero a

/-- The reflection of the digits about a digit, at a digit. -/
theorem subLeft16 (k j : Fin 16) : Equiv.subLeft k j = k - j := rfl

/-- Rotating by 8, 4, 2 and 1 and adding each time adds all 16 digits. -/
theorem add_rounds (f : Fin 16 → EReal) (k : Fin 16) (f1 f2 f3 : Fin 16 → EReal) (h1 : ∀ k, f1 k = f k + f (k - 8))
    (h2 : ∀ k, f2 k = f1 k + f1 (k - 4)) (h3 : ∀ k, f3 k = f2 k + f2 (k - 2)) :
    f3 k + f3 (k - 1) = ∑ m, f m := by
  rw [← Equiv.sum_comp (Equiv.subLeft k), sum16]
  simp only [h1, h2, h3, sub_sub16, subLeft16, show (2 : Fin 16) + 4 = 6 from rfl, show (2 : Fin 16) + 8 = 10 from rfl, show (6 : Fin 16) + 8 = 14 from rfl, show (4 : Fin 16) + 8 = 12 from rfl, show (1 : Fin 16) + 2 = 3 from rfl, show (1 : Fin 16) + 4 = 5 from rfl, show (1 : Fin 16) + 8 = 9 from rfl, show (3 : Fin 16) + 4 = 7 from rfl, show (3 : Fin 16) + 8 = 11 from rfl, show (7 : Fin 16) + 8 = 15 from rfl, show (5 : Fin 16) + 8 = 13 from rfl, sub_zero16]
  ac_rfl

/-- Rotating by 8, 4, 2 and 1 and taking the maximum each time takes the maximum of all 16 digits. -/
theorem max_rounds (f : Fin 16 → EReal) (k : Fin 16) (f1 f2 f3 : Fin 16 → EReal) (h1 : ∀ k, f1 k = max (f k) (f (k - 8)))
    (h2 : ∀ k, f2 k = max (f1 k) (f1 (k - 4))) (h3 : ∀ k, f3 k = max (f2 k) (f2 (k - 2))) :
    max (f3 k) (f3 (k - 1)) = Finset.univ.sup f := by
  have e : Finset.univ.sup f = Finset.univ.sup fun j => f (k - j) := by
    apply le_antisymm
    · refine Finset.sup_le fun j _ => ?_
      have := Finset.le_sup (f := fun j => f (k - j)) (Finset.mem_univ (k - j))
      simpa using this
    · exact Finset.sup_le fun j _ => Finset.le_sup (Finset.mem_univ _)
  rw [e, sup16]
  simp only [h1, h2, h3, sub_sub16, show (2 : Fin 16) + 4 = 6 from rfl, show (2 : Fin 16) + 8 = 10 from rfl, show (6 : Fin 16) + 8 = 14 from rfl, show (4 : Fin 16) + 8 = 12 from rfl, show (1 : Fin 16) + 2 = 3 from rfl, show (1 : Fin 16) + 4 = 5 from rfl, show (1 : Fin 16) + 8 = 9 from rfl, show (3 : Fin 16) + 4 = 7 from rfl, show (3 : Fin 16) + 8 = 11 from rfl, show (7 : Fin 16) + 8 = 15 from rfl, show (5 : Fin 16) + 8 = 13 from rfl, sub_zero16]
  ac_rfl
/-- The rounds of maxima of a row. -/
theorem rowMax_apply (z f1 f2 f3 f4 : FVec Ideal S32x1024 .f32) (h1 : f1 = maximumf z (roll 8 z)) (h2 : f2 = maximumf f1 (roll 4 f1))
    (h3 : f3 = maximumf f2 (roll 2 f2)) (h4 : f4 = maximumf f3 (roll 1 f3)) (b : Fin 32) (k : Fin 16) (l : Fin 64) :
    f4 (ix2 b (kpos k l)) = Finset.univ.sup fun m => z (ix2 b (kpos m l)) := by
  rw [← max_rounds (fun m => z (ix2 b (kpos m l))) k (fun m => f1 (ix2 b (kpos m l))) (fun m => f2 (ix2 b (kpos m l)))
    (fun m => f3 (ix2 b (kpos m l)))
    (fun k => by rw [h1]; pointwise; rw [roll_kpos])
    (fun k => by rw [h2]; pointwise; rw [roll_kpos])
    (fun k => by rw [h3]; pointwise; rw [roll_kpos])]
  rw [h4]
  pointwise
  rw [roll_kpos]

/-- The rounds of sums of a row. -/
theorem rowSum16_apply (z f1 f2 f3 f4 : FVec Ideal S32x1024 .f32) (h1 : f1 = addf z (roll 8 z)) (h2 : f2 = addf f1 (roll 4 f1))
    (h3 : f3 = addf f2 (roll 2 f2)) (h4 : f4 = addf f3 (roll 1 f3)) (b : Fin 32) (k : Fin 16) (l : Fin 64) :
    f4 (ix2 b (kpos k l)) = ∑ m, z (ix2 b (kpos m l)) := by
  rw [← add_rounds (fun m => z (ix2 b (kpos m l))) k (fun m => f1 (ix2 b (kpos m l))) (fun m => f2 (ix2 b (kpos m l)))
    (fun m => f3 (ix2 b (kpos m l)))
    (fun k => by rw [h1]; pointwise; rw [roll_kpos])
    (fun k => by rw [h2]; pointwise; rw [roll_kpos])
    (fun k => by rw [h3]; pointwise; rw [roll_kpos])]
  rw [h4]
  pointwise
  rw [roll_kpos]

/-- A row divided by its groups' sums, the row being the exponentials of logits less the groups' maxima. -/
theorem softmax_apply (z m4 e f1 f2 f3 f4 : FVec Ideal S32x1024 .f32)
    (hm : ∀ b k l, m4 (ix2 b (kpos k l)) = Finset.univ.sup fun m => z (ix2 b (kpos m l)))
    (he : e = exp (subf z m4)) (h1 : f1 = addf e (roll 8 e)) (h2 : f2 = addf f1 (roll 4 f1))
    (h3 : f3 = addf f2 (roll 2 f2)) (h4 : f4 = addf f3 (roll 1 f3)) (b : Fin 32) (k : Fin 16) (l : Fin 64) :
    divf e f4 (ix2 b (kpos k l)) = soft (fun m => z (ix2 b (kpos m l))) k := by
  have hs := rowSum16_apply e f1 f2 f3 f4 h1 h2 h3 h4 b k l
  have hev : ∀ m, e (ix2 b (kpos m l)) = Ideal.exp (z (ix2 b (kpos m l)) - Finset.univ.sup fun m => z (ix2 b (kpos m l))) := by
    intro m
    rw [he]
    pointwise
    rw [hm]
  show Ideal.div (e (ix2 b (kpos k l))) (f4 (ix2 b (kpos k l))) = _
  rw [hs]
  simp only [hev]
  rfl

/-- The first operand's digits. -/
theorem digitsX_apply (z : FVec Ideal S32x1024 .f32) (b : Fin 32) (k : Fin 16) (l : Fin 64) :
    k0_pay22 z (ix2 b (kpos k l)) = soft (fun m => z (ix2 b (kpos m l))) k := by
  unfold k0_pay22
  rw [roll_8, roll_4, roll_2, roll_1, roll_8, roll_4, roll_2, roll_1]
  exact softmax_apply z _ _ _ _ _ _ (rowMax_apply z _ _ _ _ rfl rfl rfl rfl) rfl rfl rfl rfl rfl b k l

/-- The second operand's digits. -/
theorem digitsY_apply (v251 : FVec Ideal S32x1024 .f32) (w : Vec Ideal S1024x1024 .f32) (c : Vec Ideal S1x1024 .f32)
    (b : Fin 32) (k : Fin 16) (l : Fin 64) :
    k0_pay25 (k0_pay21 v251 w c) (k0_pay23 v251 w c) (k0_pay24 v251 w c) (ix2 b (kpos k l)) =
      soft (fun m => k0_pay21 v251 w c (ix2 b (kpos m l))) k := by
  unfold k0_pay25 k0_pay24 k0_pay23
  dsimp only
  generalize k0_pay21 v251 w c = z
  rw [roll_8, roll_4, roll_2, roll_1, roll_8, roll_4, roll_2, roll_1]
  exact softmax_apply z _ _ _ _ _ _ (rowMax_apply z _ _ _ _ rfl rfl rfl rfl) rfl rfl rfl rfl rfl b k l

end Cert.KernelIdeal.Block

end
-- ==== Proof.KernelBlend.lean ====
/-
  Sums and differences of the two operands' digits modulo 16, and the blend of the four outcomes, at the position of a
  digit of a group. The kernel adds the sixteen products one after another, in rounds of three.
-/
module

public import proofs.«01_k».proof.Proof.KernelDigits

@[expose] public section

noncomputable section

namespace Cert.KernelIdeal.Block

open Idealize.ShloMosaic Idealize.SL.Sem Cert.KernelIdeal Cert.KernelIdeal.Gen Cert.Spec

variable (x y a : FVec Ideal S32x1024 .f32) (b : Fin 32) (k : Fin 16) (l : Fin 64)

/-- If two digits add up to zero, subtracting one is adding the other. -/
theorem turn (k : Fin 16) (i j : Fin 16) (h : i + j = 0) : k - i = k + j := by
  rw [sub_eq_iff_eq_add, add_assoc, add_comm j i, h, add_zero]

/-- The first two products of the sums. -/
theorem plus_start (v265 v312 v315 : FVec Ideal S32x1024 .f32) (hy : k0_pay25 v265 v312 v315 = y) :
    k0_pay26 v265 x v312 v315 (ix2 b (kpos k l)) = x (ix2 b (kpos 0 l)) * y (ix2 b (kpos k l)) + x (ix2 b (kpos 1 l)) * y (ix2 b (kpos (k - 1) l)) := by
  unfold k0_pay26
  rw [hy]
  simp only [tile_0, tile_1, roll_1]
  pointwise
  simp only [roll_kpos, tile_kpos, zero_add]

/-- The first two products of the differences. -/
theorem minus_start (v265 v312 v315 : FVec Ideal S32x1024 .f32) (hy : k0_pay25 v265 v312 v315 = y) :
    k0_pay27 v265 x v312 v315 (ix2 b (kpos k l)) = x (ix2 b (kpos k l)) * y (ix2 b (kpos 0 l)) + x (ix2 b (kpos (k + 1) l)) * y (ix2 b (kpos 1 l)) := by
  unfold k0_pay27
  rw [hy]
  simp only [tile_0, tile_1, roll_15]
  pointwise
  simp only [roll_kpos, tile_kpos, zero_add, turn k 15 1 rfl]

/-- Products 2 to 4 added to the sums. -/
theorem plus_2 :
    k0_pay29 x y a (k0_pay28 x) (ix2 b (kpos k l)) = a (ix2 b (kpos k l)) + x (ix2 b (kpos 2 l)) * y (ix2 b (kpos (k - 2) l)) + x (ix2 b (kpos 3 l)) * y (ix2 b (kpos (k - 3) l)) + x (ix2 b (kpos 4 l)) * y (ix2 b (kpos (k - 4) l)) := by
  unfold k0_pay29 k0_pay28
  simp only [tile_2, tile_3, tile_4, roll_2, roll_3, roll_4]
  pointwise
  simp only [roll_kpos, tile_kpos]

/-- Products 2 to 4 added to the differences. -/
theorem minus_2 :
    k0_pay30 x y a (ix2 b (kpos k l)) = a (ix2 b (kpos k l)) + x (ix2 b (kpos (k + 2) l)) * y (ix2 b (kpos 2 l)) + x (ix2 b (kpos (k + 3) l)) * y (ix2 b (kpos 3 l)) + x (ix2 b (kpos (k + 4) l)) * y (ix2 b (kpos 4 l)) := by
  unfold k0_pay30
  simp only [tile_2, tile_3, tile_4, roll_14, roll_13, roll_12]
  pointwise
  simp only [roll_kpos, tile_kpos, turn k 14 2 rfl, turn k 13 3 rfl, turn k 12 4 rfl]

/-- Products 5 to 7 added to the sums. -/
theorem plus_5 :
    k0_pay32 x y a (k0_pay31 x) (ix2 b (kpos k l)) = a (ix2 b (kpos k l)) + x (ix2 b (kpos 5 l)) * y (ix2 b (kpos (k - 5) l)) + x (ix2 b (kpos 6 l)) * y (ix2 b (kpos (k - 6) l)) + x (ix2 b (kpos 7 l)) * y (ix2 b (kpos (k - 7) l)) := by
  unfold k0_pay32 k0_pay31
  simp only [tile_5, tile_6, tile_7, roll_5, roll_6, roll_7]
  pointwise
  simp only [roll_kpos, tile_kpos]

/-- Products 5 to 7 added to the differences. -/
theorem minus_5 :
    k0_pay33 x y a (ix2 b (kpos k l)) = a (ix2 b (kpos k l)) + x (ix2 b (kpos (k + 5) l)) * y (ix2 b (kpos 5 l)) + x (ix2 b (kpos (k + 6) l)) * y (ix2 b (kpos 6 l)) + x (ix2 b (kpos (k + 7) l)) * y (ix2 b (kpos 7 l)) := by
  unfold k0_pay33
  simp only [tile_5, tile_6, tile_7, roll_11, roll_10, roll_9]
  pointwise
  simp only [roll_kpos, tile_kpos, turn k 11 5 rfl, turn k 10 6 rfl, turn k 9 7 rfl]

/-- Products 8 to 10 added to the sums. -/
theorem plus_8 :
    k0_pay35 x y a (k0_pay34 x) (ix2 b (kpos k l)) = a (ix2 b (kpos k l)) + x (ix2 b (kpos 8 l)) * y (ix2 b (kpos (k - 8) l)) + x (ix2 b (kpos 9 l)) * y (ix2 b (kpos (k - 9) l)) + x (ix2 b (kpos 10 l)) * y (ix2 b (kpos (k - 10) l)) := by
  unfold k0_pay35 k0_pay34
  simp only [tile_8, tile_9, tile_10, roll_8, roll_9, roll_10]
  pointwise
  simp only [roll_kpos, tile_kpos]

/-- Products 8 to 10 added to the differences. -/
theorem minus_8 :
    k0_pay36 x y a (ix2 b (kpos k l)) = a (ix2 b (kpos k l)) + x (ix2 b (kpos (k + 8) l)) * y (ix2 b (kpos 8 l)) + x (ix2 b (kpos (k + 9) l)) * y (ix2 b (kpos 9 l)) + x (ix2 b (kpos (k + 10) l)) * y (ix2 b (kpos 10 l)) := by
  unfold k0_pay36
  simp only [tile_8, tile_9, tile_10, roll_8, roll_7, roll_6]
  pointwise
  simp only [roll_kpos, tile_kpos, turn k 8 8 rfl, turn k 7 9 rfl, turn k 6 10 rfl]

/-- Products 11 to 13 added to the sums. -/
theorem plus_11 :
    k0_pay38 x y a (k0_pay37 x) (ix2 b (kpos k l)) = a (ix2 b (kpos k l)) + x (ix2 b (kpos 11 l)) * y (ix2 b (kpos (k - 11) l)) + x (ix2 b (kpos 12 l)) * y (ix2 b (kpos (k - 12) l)) + x (ix2 b (kpos 13 l)) * y (ix2 b (kpos (k - 13) l)) := by
  unfold k0_pay38 k0_pay37
  simp only [tile_11, tile_12, tile_13, roll_11, roll_12, roll_13]
  pointwise
  simp only [roll_kpos, tile_kpos]

/-- Products 11 to 13 added to the differences. -/
theorem minus_11 :
    k0_pay39 x y a (ix2 b (kpos k l)) = a (ix2 b (kpos k l)) + x (ix2 b (kpos (k + 11) l)) * y (ix2 b (kpos 11 l)) + x (ix2 b (kpos (k + 12) l)) * y (ix2 b (kpos 12 l)) + x (ix2 b (kpos (k + 13) l)) * y (ix2 b (kpos 13 l)) := by
  unfold k0_pay39
  simp only [tile_11, tile_12, tile_13, roll_5, roll_4, roll_3]
  pointwise
  simp only [roll_kpos, tile_kpos, turn k 5 11 rfl, turn k 4 12 rfl, turn k 3 13 rfl]

/-- The instructions' probabilities and the gate, at an index. -/
theorem line_apply (v653 : Vec Ideal S32x1x8 .f32) (j : Fin 8) : k0_pay41 v653 (ix2 b j) = v653 (ix3 b 0 j) := by
  unfold k0_pay41
  pointwise

/-- The blend of the four outcomes, before the last products of the sums and differences are added. -/
theorem blend_end (s d : FVec Ideal S32x1024 .f32) (v653 : Vec Ideal S32x1x8 .f32) :
    k0_pay42 x y s d (k0_pay40 x) v653 (ix2 b (kpos k l)) =
      v653 (ix3 b 0 1) * x (ix2 b (kpos k l)) + v653 (ix3 b 0 2) * y (ix2 b (kpos k l)) +
        v653 (ix3 b 0 3) * (s (ix2 b (kpos k l)) + x (ix2 b (kpos 14 l)) * y (ix2 b (kpos (k - 14) l)) + x (ix2 b (kpos 15 l)) * y (ix2 b (kpos (k - 15) l))) +
        v653 (ix3 b 0 4) * (d (ix2 b (kpos k l)) + x (ix2 b (kpos (k + 14) l)) * y (ix2 b (kpos 14 l)) + x (ix2 b (kpos (k + 15) l)) * y (ix2 b (kpos 15 l))) := by
  unfold k0_pay42 k0_pay40
  simp only [tile_14, tile_15, roll_1, roll_2, roll_14, roll_15]
  pointwise
  simp only [roll_kpos, tile_kpos, turn k 2 14 rfl, turn k 1 15 rfl]
  rw [show k0_pay41 v653 _ = _ from line_apply b v653 1, show k0_pay41 v653 _ = _ from line_apply b v653 2,
    show k0_pay41 v653 _ = _ from line_apply b v653 3, show k0_pay41 v653 _ = _ from line_apply b v653 4]

/-- The outcome row the kernel computes from the digits, the probabilities and the second operand's intermediate rows. -/
def outcomes (v265 v300 v312 v315 : FVec Ideal S32x1024 .f32) (v653 : Vec Ideal S32x1x8 .f32) : FVec Ideal S32x1024 .f32 :=
  have v335 := k0_pay25 v265 v312 v315
  have v366 := k0_pay26 v265 v300 v312 v315
  have v371 := k0_pay27 v265 v300 v312 v315
  have v373 := k0_pay28 v300
  have v426 := k0_pay29 v300 v335 v366 v373
  have v431 := k0_pay30 v300 v335 v371
  have v433 := k0_pay31 v300
  have v486 := k0_pay32 v300 v335 v426 v433
  have v491 := k0_pay33 v300 v335 v431
  have v493 := k0_pay34 v300
  have v546 := k0_pay35 v300 v335 v486 v493
  have v551 := k0_pay36 v300 v335 v491
  have v553 := k0_pay37 v300
  have v606 := k0_pay38 v300 v335 v546 v553
  have v611 := k0_pay39 v300 v335 v551
  have v613 := k0_pay40 v300
  k0_pay42 v300 v335 v606 v611 v613 v653

/-- The mixed outcomes at an index: the four outcomes there, each times its probability. -/
theorem outcomes_apply (v265 v300 v312 v315 : FVec Ideal S32x1024 .f32) (v653 : Vec Ideal S32x1x8 .f32)
    (X Y : Fin 64 → Fin 16 → EReal) (hX : ∀ l k, v300 (ix2 b (kpos k l)) = X l k)
    (hY : ∀ l k, k0_pay25 v265 v312 v315 (ix2 b (kpos k l)) = Y l k) :
    outcomes v265 v300 v312 v315 v653 (ix2 b (kpos k l)) =
      blend (fun j => v653 (ix3 b 0 ⟨j.val, by omega⟩)) X Y l k := by
  unfold outcomes
  generalize hy : k0_pay25 v265 v312 v315 = y at hY
  simp only [blend_end, plus_11, plus_8, plus_5, plus_2, minus_11, minus_8, minus_5, minus_2, plus_start v300 y b k l v265 v312 v315 hy,
    minus_start v300 y b k l v265 v312 v315 hy, hX, hY]
  unfold blend plus minus
  rw [sum16, sum16]
  simp only [sub_zero, add_zero]
  rfl

end Cert.KernelIdeal.Block

end
-- ==== Proof.KernelBlock.lean ====
/-
  What one grid point writes to a block of 32 batch rows: every batch row's registers after one line, in the kernel's
  form. The operands' dense layers and the result's dense layer come with their digits digit-major; `Fits` says how a
  block's operands hold a program's weights and a batch row's line.
-/
module

public import proofs.«01_k».proof.Proof.KernelNorm
public import proofs.«01_k».proof.Proof.KernelBlend

@[expose] public section

noncomputable section

namespace Cert.KernelIdeal.Block

open Idealize.ShloMosaic Idealize.SL.Sem Cert.KernelIdeal Cert.KernelIdeal.Gen Cert.Spec Cert.Words

/-- The operands of one grid point: the line's probabilities and gate, the registers, the queries, the write key and the
    weights. -/
structure Operands where
  (pg : Vec Ideal S32x1x8 .f32) (v3 : Vec Ideal S32x64x1024 .f32) (v6 : Vec Ideal S32x1x2x1024 .f32)
  (v8 : Vec Ideal S32x1x1x1024 .f32) (w1 : Vec Ideal S1024x1024 .f32) (c1 : Vec Ideal S1x1024 .f32)
  (w2 : Vec Ideal S1024x1024 .f32) (c2 : Vec Ideal S1x1024 .f32) (wr : Vec Ideal S1024x1024 .f32) (cr : Vec Ideal S1x1024 .f32)
  (g1 n1 g2 n2 gf nf : Vec Ideal S1x1024 .f32)

variable (O : Operands)

/-- The attention, flattened. -/
def attnRows : FVec Ideal S2048x3 .f32 :=
  k0_pay10 (own O.v3 O.v6 O.v8) (Scalar.select (Scalar.cmpi .eq 3#32 0#32) 1#32 3#32)
    (k0_pay7 (iota .tc S2048x96 32 [1] iota_S2048x96_d1_w32)) (k0_pay8 (iota .tc S2048x96 32 [1] iota_S2048x96_d1_w32))

/-- The two reads. -/
def readRows : FVec Ideal S32x2x1024 .f32 := reads (k0_pay2 O.v3) (attnRows O)

/-- Their sums. -/
def readSums : FVec Ideal S32x2x1 .f32 :=
  k0_pay17 (k0_pay2 O.v3) (attnRows O) (iota .tc S2048x64 32 [1] iota_S2048x64_d1_w32)
    (k0_pay13 (iota .tc S2048x64 32 [0] iota_S2048x64_d0_w32) (iota .tc S2048x64 32 [1] iota_S2048x64_d1_w32) 2#32
      k0_pay11 k0_pay12 (Scalar.cmpi .sgt 2#32 0#32))
    (Scalar.select (Scalar.cmpi .eq 2#32 0#32) 1#32 2#32)
    (k0_pay14 (iota .tc S2048x64 32 [1] iota_S2048x64_d1_w32)) (k0_pay15 (iota .tc S2048x64 32 [1] iota_S2048x64_d1_w32)) 0#32

/-- The second operand's normed read. -/
def normY : FVec Ideal S32x1024 .f32 := k0_pay19 (readRows O) (readSums O) O.g2 O.n2

/-- The first operand's digits. -/
def digX : FVec Ideal S32x1024 .f32 := k0_pay22 (k0_pay20 (readRows O) (readSums O) O.g1 O.n1 O.w1 O.c1)

/-- The outcome row. -/
def outRow : FVec Ideal S32x1024 .f32 :=
  outcomes (k0_pay21 (normY O) O.w2 O.c2) (digX O) (k0_pay23 (normY O) O.w2 O.c2) (k0_pay24 (normY O) O.w2 O.c2) O.pg

/-- The block after one line. -/
def next : FVec Ideal S32x64x1024 .f32 :=
  k0_pay43 (k0_pay1 O.v3) (attn O.v3 O.v6 O.v8) (k0_pay41 O.pg) (outRow O) O.wr O.cr O.gf O.nf

/-- The weights a block's operands hold, and the line batch row `b` has. -/
structure Fits (P : Weights) (L : Line) (b : Fin 32) : Prop where
  w1 : ∀ d k l, O.w1 (ix2 d (kpos k l)) = P.W1 d (pos l k)
  c1 : ∀ k l, O.c1 (ix2 0 (kpos k l)) = P.c1 (pos l k)
  w2 : ∀ d k l, O.w2 (ix2 d (kpos k l)) = P.W2 d (pos l k)
  c2 : ∀ k l, O.c2 (ix2 0 (kpos k l)) = P.c2 (pos l k)
  wr : ∀ k l e, O.wr (ix2 (kpos k l) e) = P.Wr (pos l k) e
  cr : ∀ e, O.cr (ix2 0 e) = P.cr e
  g1 : ∀ e, O.g1 (ix2 0 e) = P.g1 e
  n1 : ∀ e, O.n1 (ix2 0 e) = P.n1 e
  g2 : ∀ e, O.g2 (ix2 0 e) = P.g2 e
  n2 : ∀ e, O.n2 (ix2 0 e) = P.n2 e
  gf : ∀ e, O.gf (ix2 0 e) = P.gf e
  nf : ∀ e, O.nf (ix2 0 e) = P.nf e
  p : ∀ j : Fin 5, O.pg (ix3 b 0 ⟨j.val, by omega⟩) = L.p j
  gate : O.pg (ix3 b 0 5) = L.gate
  q0 : ∀ d, O.v6 (ix4 b 0 0 d) = L.q0 d
  q1 : ∀ d, O.v6 (ix4 b 0 1 d) = L.q1 d
  kw : ∀ d, O.v8 (ix4 b 0 0 d) = L.kw d

variable {O} {P : Weights} {L : Line} {b : Fin 32}

/-- The attention block at an index: the softmax, over the registers, of their scores with the query. -/
theorem attnRows_apply (n : Fin 64) (j : Fin 3) :
    attnRows O (ix2 ⟨b.val * 64 + n.val, by omega⟩ j) = soft (score (regs O.v3 b) (query O.v6 O.v8 b j)) n := by
  have h : attnRows O (ix2 ⟨b.val * 64 + n.val, by omega⟩ j) = attn O.v3 O.v6 O.v8 (ix3 b n j) := by
    unfold attnRows k0_pay10
    pointwise
    rfl
  rw [h, attn_apply]

/-- The reads at an index: the registers recalled with the query. -/
theorem readRows_apply (j : Fin 2) (d : Fin 1024) :
    readRows O (ix3 b j d) = recall (regs O.v3 b) (query O.v6 O.v8 b ⟨j.val, by omega⟩) d := by
  unfold readRows
  rw [reads_apply]
  refine Finset.sum_congr rfl fun n _ => ?_
  rw [attnRows_apply]
  refine congrArg _ ?_
  unfold k0_pay2 k0_pay1
  pointwise
  rfl

/-- The reads summed along their last axis. -/
theorem readSums_apply (b : Fin 32) (j : Fin 2) : readSums O (ix3 b j 0) = ∑ d, readRows O (ix3 b j d) :=
  sums_apply _ _ _ _ _ _ _ _ b j 0

variable (h : Fits O P L b)
include h

/-- The first query of the block is the line's first read query. -/
theorem query_zero : query O.v6 O.v8 b 0 = L.q0 := funext fun d => (h.q0 d)

/-- The second query of the block is the line's second read query. -/
theorem query_one : query O.v6 O.v8 b 1 = L.q1 := funext fun d => (h.q1 d)

/-- The third query of the block is the line's write key. -/
theorem query_two : query O.v6 O.v8 b 2 = L.kw := funext fun d => (h.kw d)

/-- The first operand's digits at an index. -/
theorem digX_apply (k : Fin 16) (l : Fin 64) : digX O (ix2 b (kpos k l)) = opX P L (regs O.v3 b) l k := by
  unfold digX
  rw [digitsX_apply]
  unfold opX digits
  refine congrArg (fun z => soft z k) (funext fun m => ?_)
  rw [logitsX_apply _ _ _ _ _ _ readSums_apply]
  have hr : (fun d => readRows O (ix3 b 0 d)) = recall (regs O.v3 b) L.q0 := funext fun d => by
    rw [readRows_apply, ← query_zero h]; rfl
  rw [hr]
  unfold dense
  simp only [h.w1, h.c1, h.g1, h.n1]

/-- The second operand's digits at an index. -/
theorem digY_apply (k : Fin 16) (l : Fin 64) :
    k0_pay25 (k0_pay21 (normY O) O.w2 O.c2) (k0_pay23 (normY O) O.w2 O.c2) (k0_pay24 (normY O) O.w2 O.c2)
      (ix2 b (kpos k l)) = opY P L (regs O.v3 b) l k := by
  rw [digitsY_apply]
  unfold opY digits
  refine congrArg (fun z => soft z k) (funext fun m => ?_)
  have hr : (fun d => readRows O (ix3 b 1 d)) = recall (regs O.v3 b) L.q1 := funext fun d => by
    rw [readRows_apply, ← query_one h]; rfl
  have hn : (fun d => normY O (ix2 b d)) = norm P.g2 P.n2 (recall (regs O.v3 b) L.q1) := funext fun d => by
    unfold normY
    rw [normY_apply _ _ _ _ readSums_apply, hr]
    simp only [h.g2, h.n2]
  rw [logitsY_apply, hn]
  unfold dense
  simp only [h.w2, h.c2]

/-- The mixed outcomes at an index, as the specification writes them. -/
theorem outRow_apply (k : Fin 16) (l : Fin 64) : outRow O (ix2 b (kpos k l)) = outcome P L (regs O.v3 b) (pos l k) := by
  unfold outRow
  rw [outcomes_apply b k l _ _ _ _ _ (opX P L (regs O.v3 b)) (opY P L (regs O.v3 b)) (fun l k => digX_apply h k l)
    (fun l k => digY_apply h k l)]
  unfold outcome
  have h1 : (⟨(pos l k).val / 16, by omega⟩ : Fin 64) = l := Fin.ext (by simp only [pos]; omega)
  have h2 : (⟨(pos l k).val % 16, by omega⟩ : Fin 16) = k := Fin.ext (by simp only [pos]; omega)
  rw [h1, h2]
  refine congrArg (fun p => blend p _ _ l k) (funext fun j => h.p j)

omit h in
/-- Digit-major to group-major, a permutation of a row. -/
theorem sum_spread (f g : Fin 1024 → EReal) (hfg : ∀ k l, f (kpos k l) = g (pos l k)) : ∑ c, f c = ∑ c, g c := by
  refine Fintype.sum_bijective (fun c : Fin 1024 => pos ⟨c.val % 64, by omega⟩ ⟨c.val / 64, by omega⟩) ?_ _ _ fun c => ?_
  · refine Finite.injective_iff_bijective.1 fun a c hac => Fin.ext ?_
    have := congrArg Fin.val hac
    simp only [pos] at this
    omega
  · rw [← hfg, kpos_div_mod]

/-- The written vector at an index, as the specification writes it. -/
theorem value_apply (e : Fin 1024) :
    (∑ c, outRow O (ix2 b c) * O.wr (ix2 c e)) + O.cr (ix2 0 e) = dense P.Wr P.cr (outcome P L (regs O.v3 b)) e := by
  unfold dense
  rw [h.cr, sum_spread _ (fun c => outcome P L (regs O.v3 b) c * P.Wr c e)]
  intro k l
  rw [outRow_apply h, h.wr]

/-- Every batch row of the block holds its registers after one line. -/
theorem next_apply (n : Fin 64) (d : Fin 1024) : next O (ix3 b n d) = kernelStep P L (regs O.v3 b) n d := by
  unfold next k0_pay43
  pointwise
  simp only [value_apply h]
  have hk : k0_pay1 O.v3 (ix3 b n d) = regs O.v3 b n d := by
    unfold k0_pay1
    pointwise
    rfl
  rw [attn_apply, query_two h, line_apply, line_apply, hk, h.gate, h.gf, h.nf,
    show O.pg (ix3 b 0 0) = L.p 0 from h.p 0]
  rfl

end Cert.KernelIdeal.Block

end
-- ==== Proof.KernelPoint.lean ====
/-
  What the body leaves in the output's block at one grid point, as `Block.next` of the point's operands: at the first
  line of a block of batch rows it starts from the given registers, at a later line from what the line before left.
-/
module

public import proofs.«01_k».proof.Proof.KernelBlock
public import proofs.«01_k».proof.Proof.Gen.KernelIdeal.Value

@[expose] public section

set_option maxRecDepth 16384

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Block

/-- The offsets of a whole matrix are zero. -/
theorem off2 : (![0, 0] : Fin 2 → Nat) = fun _ => 0 := funext fun a => by fin_cases a <;> rfl

/-- The offsets of a whole rank-three array are zero. -/
theorem off3 : (![0, 0, 0] : Fin 3 → Nat) = fun _ => 0 := funext fun a => by fin_cases a <;> rfl

/-- The offsets of a whole rank-four array are zero. -/
theorem off4 : (![0, 0, 0, 0] : Fin 4 → Nat) = fun _ => 0 := funext fun a => by fin_cases a <;> rfl

/-- One line of a block's probabilities and gates. -/
def lineOf (i : grid0.Coords) (x0 : Vec Ideal S32x32x8 .f32) : Vec Ideal S32x1x8 .f32 :=
  View.ld x0 (Rect.unit (s := S32x32x8) (k0_off1 i) S32x1x8.size (k0_off1_inb i))

/-- The operands of the point at `i`, with the registers `r`. -/
def operands (i : grid0.Coords) (x0 : Vec Ideal S32x32x8 .f32)
    (x1 : Vec Ideal S32x64x1024 .f32)
    (x2 : Vec Ideal S32x1x1x1024 .f32)
    (x3 : Vec Ideal S32x1x2x1024 .f32)
    (x4 : Vec Ideal S1024x1024 .f32)
    (x5 : Vec Ideal S1x1024 .f32)
    (x6 : Vec Ideal S1024x1024 .f32)
    (x7 : Vec Ideal S1x1024 .f32)
    (x8 : Vec Ideal S1024x1024 .f32)
    (x9 : Vec Ideal S1x1024 .f32)
    (x10 : Vec Ideal S1x1024 .f32)
    (x11 : Vec Ideal S1x1024 .f32)
    (x12 : Vec Ideal S1x1024 .f32)
    (x13 : Vec Ideal S1x1024 .f32)
    (x14 : Vec Ideal S1x1024 .f32)
    (x15 : Vec Ideal S1x1024 .f32)
    (r : Vec Ideal S32x64x1024 .f32) : Operands where
  pg := lineOf i x0
  v3 := r
  v6 := x3
  v8 := x2
  w1 := x4
  c1 := x5
  w2 := x6
  c2 := x7
  wr := x8
  cr := x9
  g1 := x10
  n1 := x11
  g2 := x12
  n2 := x13
  gf := x14
  nf := x15

/-- A later line of a block. -/
theorem out_later (c : Dev nD) (i : grid0.Coords)
    (a0 : Memref sig .tc .vmem S32x32x8 .f32) (h0 : a0.IsWhole)
    (a1 : Memref sig .tc .vmem S32x64x1024 .f32) (h1 : a1.IsWhole)
    (a2 : Memref sig .tc .vmem S32x1x1x1024 .f32) (h2 : a2.IsWhole)
    (a3 : Memref sig .tc .vmem S32x1x2x1024 .f32) (h3 : a3.IsWhole)
    (a4 : Memref sig .tc .vmem S1024x1024 .f32) (h4 : a4.IsWhole)
    (a5 : Memref sig .tc .vmem S1x1024 .f32) (h5 : a5.IsWhole)
    (a6 : Memref sig .tc .vmem S1024x1024 .f32) (h6 : a6.IsWhole)
    (a7 : Memref sig .tc .vmem S1x1024 .f32) (h7 : a7.IsWhole)
    (a8 : Memref sig .tc .vmem S1024x1024 .f32) (h8 : a8.IsWhole)
    (a9 : Memref sig .tc .vmem S1x1024 .f32) (h9 : a9.IsWhole)
    (a10 : Memref sig .tc .vmem S1x1024 .f32) (h10 : a10.IsWhole)
    (a11 : Memref sig .tc .vmem S1x1024 .f32) (h11 : a11.IsWhole)
    (a12 : Memref sig .tc .vmem S1x1024 .f32) (h12 : a12.IsWhole)
    (a13 : Memref sig .tc .vmem S1x1024 .f32) (h13 : a13.IsWhole)
    (a14 : Memref sig .tc .vmem S1x1024 .f32) (h14 : a14.IsWhole)
    (a15 : Memref sig .tc .vmem S1x1024 .f32) (h15 : a15.IsWhole)
    (a16 : Memref sig .tc .vmem S32x64x1024 .f32) (h16 : a16.IsWhole)
    (hc : ¬cond0_0 i)
    (x0 : Vec Ideal S32x32x8 .f32)
    (x1 : Vec Ideal S32x64x1024 .f32)
    (x2 : Vec Ideal S32x1x1x1024 .f32)
    (x3 : Vec Ideal S32x1x2x1024 .f32)
    (x4 : Vec Ideal S1024x1024 .f32)
    (x5 : Vec Ideal S1x1024 .f32)
    (x6 : Vec Ideal S1024x1024 .f32)
    (x7 : Vec Ideal S1x1024 .f32)
    (x8 : Vec Ideal S1024x1024 .f32)
    (x9 : Vec Ideal S1x1024 .f32)
    (x10 : Vec Ideal S1x1024 .f32)
    (x11 : Vec Ideal S1x1024 .f32)
    (x12 : Vec Ideal S1x1024 .f32)
    (x13 : Vec Ideal S1x1024 .f32)
    (x14 : Vec Ideal S1x1024 .f32)
    (x15 : Vec Ideal S1x1024 .f32)
    (xo : Vec Ideal S32x64x1024 .f32) :
    out0_B_16 c i a0 h0 a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 x13 x14 x15 xo = next (operands i x0 x1 x2 x3 x4 x5 x6 x7 x8 x9 x10 x11 x12 x13 x14 x15 xo) := by
  unfold out0_B_16
  rw [View.read_writes_eq_canon _ _ _ (cover0_B_16 c i a0 h0 a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 x13 x14 x15 xo)]
  unfold kernelRun0_B
  dsimp only
  sl_unfold_words
  rw [View.canon_unit_zero off3]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S32x64x1024) off3,
    View.ld_unit_zero (S := S1024x1024) off2, View.ld_unit_zero (S := S1x1024) off2,
    View.ld_unit_zero (S := S32x1x2x1024) off4, View.ld_unit_zero (S := S32x1x1x1024) off4]
  rfl

/-- The first line of a block. -/
theorem out_first (c : Dev nD) (i : grid0.Coords)
    (a0 : Memref sig .tc .vmem S32x32x8 .f32) (h0 : a0.IsWhole)
    (a1 : Memref sig .tc .vmem S32x64x1024 .f32) (h1 : a1.IsWhole)
    (a2 : Memref sig .tc .vmem S32x1x1x1024 .f32) (h2 : a2.IsWhole)
    (a3 : Memref sig .tc .vmem S32x1x2x1024 .f32) (h3 : a3.IsWhole)
    (a4 : Memref sig .tc .vmem S1024x1024 .f32) (h4 : a4.IsWhole)
    (a5 : Memref sig .tc .vmem S1x1024 .f32) (h5 : a5.IsWhole)
    (a6 : Memref sig .tc .vmem S1024x1024 .f32) (h6 : a6.IsWhole)
    (a7 : Memref sig .tc .vmem S1x1024 .f32) (h7 : a7.IsWhole)
    (a8 : Memref sig .tc .vmem S1024x1024 .f32) (h8 : a8.IsWhole)
    (a9 : Memref sig .tc .vmem S1x1024 .f32) (h9 : a9.IsWhole)
    (a10 : Memref sig .tc .vmem S1x1024 .f32) (h10 : a10.IsWhole)
    (a11 : Memref sig .tc .vmem S1x1024 .f32) (h11 : a11.IsWhole)
    (a12 : Memref sig .tc .vmem S1x1024 .f32) (h12 : a12.IsWhole)
    (a13 : Memref sig .tc .vmem S1x1024 .f32) (h13 : a13.IsWhole)
    (a14 : Memref sig .tc .vmem S1x1024 .f32) (h14 : a14.IsWhole)
    (a15 : Memref sig .tc .vmem S1x1024 .f32) (h15 : a15.IsWhole)
    (a16 : Memref sig .tc .vmem S32x64x1024 .f32) (h16 : a16.IsWhole)
    (hc : cond0_0 i)
    (x0 : Vec Ideal S32x32x8 .f32)
    (x1 : Vec Ideal S32x64x1024 .f32)
    (x2 : Vec Ideal S32x1x1x1024 .f32)
    (x3 : Vec Ideal S32x1x2x1024 .f32)
    (x4 : Vec Ideal S1024x1024 .f32)
    (x5 : Vec Ideal S1x1024 .f32)
    (x6 : Vec Ideal S1024x1024 .f32)
    (x7 : Vec Ideal S1x1024 .f32)
    (x8 : Vec Ideal S1024x1024 .f32)
    (x9 : Vec Ideal S1x1024 .f32)
    (x10 : Vec Ideal S1x1024 .f32)
    (x11 : Vec Ideal S1x1024 .f32)
    (x12 : Vec Ideal S1x1024 .f32)
    (x13 : Vec Ideal S1x1024 .f32)
    (x14 : Vec Ideal S1x1024 .f32)
    (x15 : Vec Ideal S1x1024 .f32) :
    out0_A_16 c i a0 h0 a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 x13 x14 x15 = next (operands i x0 x1 x2 x3 x4 x5 x6 x7 x8 x9 x10 x11 x12 x13 x14 x15 x1) := by
  unfold out0_A_16
  rw [View.read_writes_eq_canon _ _ _ (cover0_A_16 c i a0 h0 a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 x13 x14 x15)]
  unfold kernelRun0_A
  dsimp only
  sl_unfold_words
  rw [View.canon_cons_unit_zero (S := S32x64x1024) off3]
  simp only [View.readCov_unit_zero (S := S32x64x1024) _ off3, View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S32x64x1024) off3,
    View.ld_unit_zero (S := S1024x1024) off2, View.ld_unit_zero (S := S1x1024) off2,
    View.ld_unit_zero (S := S32x1x2x1024) off4, View.ld_unit_zero (S := S32x1x1x1024) off4]
  rfl

end Cert.KernelIdeal.Point

end
-- ==== Proof.KernelHost.lean ====
/-
  What the arrays that @main prepares before the launch hold, entry by entry, in terms of the arguments.
-/
module

public import proofs.«01_k».proof.Proof.KernelPoint
public import Idealize.ShloMosaic.Lib.StableHlo.ReadAt

@[expose] public section

set_option maxRecDepth 16384

noncomputable section

open Idealize.ShloMosaic Idealize.ShloMosaic.TcCoe Idealize.ShloMosaic.Tactic Cert.Spec

namespace Cert.KernelIdeal.Host

open Cert.KernelIdeal.Gen Cert.KernelIdeal.Block

variable (m : (ℓ : Loc nD τ sig) → Buf (Elt Ideal) ℓ) (c : Dev nD)

/-- A digit's place in the digit-major order, written back in the position-major order. -/
theorem pos_of_kpos (k : Fin 16) (l : Fin 64) (h : (kpos k l).val % 64 * 16 + (kpos k l).val / 64 < 1024) :
    (⟨(kpos k l).val % 64 * 16 + (kpos k l).val / 64, h⟩ : Fin 1024) = pos l k := by
  apply Fin.ext
  show (64 * k.val + l.val) % 64 * 16 + (64 * k.val + l.val) / 64 = l.val * 16 + k.val
  omega

/-- The first branch's digit weights, digit-major. -/
theorem w1_apply (d : Fin 1024) (k : Fin 16) (l : Fin 64) :
    V m c main_v5 (ix2 d (kpos k l)) = m (c.tc.loc main_arg7) (ix2 d (pos l k)) := by
  unfold V
  after_reads_at
  exact congrArg (fun x => m (c.tc.loc main_arg7) (ix2 d x)) (pos_of_kpos k l _)

/-- The second branch's digit weights, digit-major. -/
theorem w2_apply (d : Fin 1024) (k : Fin 16) (l : Fin 64) :
    V m c main_v8 (ix2 d (kpos k l)) = m (c.tc.loc main_arg11) (ix2 d (pos l k)) := by
  unfold V
  after_reads_at
  exact congrArg (fun x => m (c.tc.loc main_arg11) (ix2 d x)) (pos_of_kpos k l _)

/-- The first branch's digit offsets, digit-major. -/
theorem c1_apply (k : Fin 16) (l : Fin 64) :
    V m c main_v11 (ix2 0 (kpos k l)) = m (c.tc.loc main_arg8) (ix1 (pos l k)) := by
  unfold V
  after_reads_at
  exact congrArg (fun x => m (c.tc.loc main_arg8) (ix1 x)) (pos_of_kpos k l _)

/-- The second branch's digit offsets, digit-major. -/
theorem c2_apply (k : Fin 16) (l : Fin 64) :
    V m c main_v14 (ix2 0 (kpos k l)) = m (c.tc.loc main_arg12) (ix1 (pos l k)) := by
  unfold V
  after_reads_at
  exact congrArg (fun x => m (c.tc.loc main_arg12) (ix1 x)) (pos_of_kpos k l _)

/-- The weights from digits back to a register, digit-major. -/
theorem wr_apply (k : Fin 16) (l : Fin 64) (e : Fin 1024) :
    V m c main_v17 (ix2 (kpos k l) e) = m (c.tc.loc main_arg13) (ix2 (pos l k) e) := by
  unfold V
  after_reads_at
  exact congrArg (fun x => m (c.tc.loc main_arg13) (ix2 x e)) (pos_of_kpos k l _)

/-- Argument 14 as a row. -/
theorem cr_apply (e : Fin 1024) : V m c main_v18 (ix2 0 e) = m (c.tc.loc main_arg14) (ix1 e) := by
  unfold V
  after_reads_at

/-- Argument 5 as a row. -/
theorem g1_apply (e : Fin 1024) : V m c main_v19 (ix2 0 e) = m (c.tc.loc main_arg5) (ix1 e) := by
  unfold V
  after_reads_at

/-- Argument 6 as a row. -/
theorem n1_apply (e : Fin 1024) : V m c main_v20 (ix2 0 e) = m (c.tc.loc main_arg6) (ix1 e) := by
  unfold V
  after_reads_at

/-- Argument 9 as a row. -/
theorem g2_apply (e : Fin 1024) : V m c main_v21 (ix2 0 e) = m (c.tc.loc main_arg9) (ix1 e) := by
  unfold V
  after_reads_at

/-- Argument 10 as a row. -/
theorem n2_apply (e : Fin 1024) : V m c main_v22 (ix2 0 e) = m (c.tc.loc main_arg10) (ix1 e) := by
  unfold V
  after_reads_at

/-- Argument 15 as a row. -/
theorem gf_apply (e : Fin 1024) : V m c main_v23 (ix2 0 e) = m (c.tc.loc main_arg15) (ix1 e) := by
  unfold V
  after_reads_at

/-- Argument 16 as a row. -/
theorem nf_apply (e : Fin 1024) : V m c main_v24 (ix2 0 e) = m (c.tc.loc main_arg16) (ix1 e) := by
  unfold V
  after_reads_at

/-- The two queries of each line. -/
theorem q_apply (b : Fin 256) (l : Fin 32) (j : Fin 2) (d : Fin 1024) :
    V m c main_v2 (ix4 b l j d) = m (c.tc.loc main_arg3) (ix3 b ⟨2 * l.val + j.val, by omega⟩ d) := by
  unfold V
  after_reads_at
  exact congrArg (fun x => m (c.tc.loc main_arg3) (ix3 b x d)) (Fin.ext (by show l.val * 2 + j.val = 2 * l.val + j.val; omega))

/-- The first piece of three side by side. -/
theorem piece_first {α : Type} (x : S256x32x5.Idx → α) (y : S256x32x1.Idx → α) (z : S256x32x2.Idx → α) (h)
    (b : Fin 256) (l : Fin 32) (j : Fin 5) :
    concatenate S256x32x8 2 [⟨S256x32x5, x⟩, ⟨S256x32x1, y⟩, ⟨S256x32x2, z⟩] h (ix3 b l ⟨j.val, by omega⟩) = x (ix3 b l j) :=
  concatenate_apply_piece 2 _ h _ 0 (Nat.zero_lt_succ _) S256x32x5 x rfl rfl 0 rfl (ix3 b l j)
    (fun a ha => by fin_cases a <;> first | rfl | exact absurd rfl ha) (by show 0 + j.val = j.val; omega)

/-- The middle piece of three side by side. -/
theorem piece_middle {α : Type} (x : S256x32x5.Idx → α) (y : S256x32x1.Idx → α) (z : S256x32x2.Idx → α) (h)
    (b : Fin 256) (l : Fin 32) :
    concatenate S256x32x8 2 [⟨S256x32x5, x⟩, ⟨S256x32x1, y⟩, ⟨S256x32x2, z⟩] h (ix3 b l 5) = y (ix3 b l 0) :=
  concatenate_apply_piece 2 _ h _ 1 (by simp) S256x32x1 y rfl rfl 5 rfl (ix3 b l 0)
    (fun a ha => by fin_cases a <;> first | rfl | exact absurd rfl ha) rfl

/-- The first five columns of the packed array are the probabilities. -/
theorem probs_apply (b : Fin 256) (l : Fin 32) (j : Fin 5) :
    V m c main_v1 (ix3 b l ⟨j.val, by omega⟩) = m (c.tc.loc main_arg0) (ix3 b l j) := by
  unfold V
  after_reads_simp
  exact piece_first _ _ _ _ b l j

/-- The sixth column of the packed array is the gate. -/
theorem gate_apply (b : Fin 256) (l : Fin 32) :
    V m c main_v1 (ix3 b l 5) = m (c.tc.loc main_arg4) (ix3 b l 0) := by
  unfold V
  after_reads_simp
  exact piece_middle _ _ _ _ b l

end Cert.KernelIdeal.Host

end
-- ==== Proof.Finite.lean ====
/-
  Where the two forms of the register update agree: on finite registers, write keys, gate and nop probability, with a
  finite scale and shift in the last layer norm. Nothing else is asked: a layer norm of ANY vector is finite, because
  a vector with an infinite entry has an infinite variance, and the reciprocal root of that is zero.
-/
module

public import proofs.«01_k».proof.Proof.Spec

@[expose] public section

noncomputable section

namespace Cert.Spec

open Idealize.ShloMosaic

/-- A finite extended real. -/
def IsReal (x : EReal) : Prop := ∃ r : ℝ, x = (r : EReal)

/-- A value is finite exactly when it is neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- A sum of two finite values is finite. -/
theorem IsReal.add {x y : EReal} : IsReal x → IsReal y → IsReal (x + y) := by
  rintro ⟨a, rfl⟩ ⟨b, rfl⟩; exact ⟨a + b, by norm_cast⟩

/-- A difference of two finite values is finite. -/
theorem IsReal.sub {x y : EReal} : IsReal x → IsReal y → IsReal (x - y) := by
  rintro ⟨a, rfl⟩ ⟨b, rfl⟩; exact ⟨a - b, by norm_cast⟩

/-- A product of two finite values is finite. -/
theorem IsReal.mul {x y : EReal} : IsReal x → IsReal y → IsReal (x * y) := by
  rintro ⟨a, rfl⟩ ⟨b, rfl⟩; exact ⟨a * b, by norm_cast⟩

/-- One is finite. -/
theorem isReal_one : IsReal 1 := ⟨1, by norm_cast⟩

/-- A family of finite values is a family of reals. -/
theorem exists_real {ι : Type} {f : ι → EReal} (h : ∀ i, IsReal (f i)) : ∃ u : ι → ℝ, f = fun i => (u i : EReal) :=
  ⟨fun i => (h i).choose, funext fun i => (h i).choose_spec⟩

/-- A finite sum of reals, in the extended reals. -/
theorem coe_sum {ι : Type} (s : Finset ι) (u : ι → ℝ) : ∑ i ∈ s, (u i : EReal) = ((∑ i ∈ s, u i : ℝ) : EReal) := by
  classical
  induction s using Finset.induction_on with
  | empty => simp
  | insert a s ha ih => rw [Finset.sum_insert ha, Finset.sum_insert ha, ih, EReal.coe_add]

/-- A finite sum of finite values is finite. -/
theorem isReal_sum {ι : Type} (s : Finset ι) {f : ι → EReal} (h : ∀ i, IsReal (f i)) : IsReal (∑ i ∈ s, f i) := by
  obtain ⟨u, rfl⟩ := exists_real h
  exact ⟨_, coe_sum s u⟩

/-- The terms of a finite sum are finite. -/
theorem isReal_of_sum {ι : Type} [Fintype ι] {f : ι → EReal} (h : IsReal (∑ i, f i)) (i : ι) : IsReal (f i) := by
  classical
  rw [← Finset.add_sum_erase Finset.univ f (Finset.mem_univ i), isReal_iff] at h
  rw [isReal_iff]
  constructor <;> intro e <;> rw [e] at h
  · rcases eq_or_ne (∑ x ∈ Finset.univ.erase i, f x) ⊥ with h' | h'
    · rw [h'] at h; simp at h
    · rw [EReal.top_add_of_ne_bot h'] at h; simp at h
  · simp at h

/-- The length literal denotes 1024. -/
theorem count_eq : count = ((1024 : ℝ) : EReal) := by
  simp [count, Ideal.ofBits, Ideal.ieee, -EReal.coe_mul]; norm_num

/-- The variance literal denotes a positive real. -/
theorem eps_pos : ∃ e : ℝ, 0 < e ∧ eps = (e : EReal) := by
  refine ⟨_, ?_, by simp only [eps, Ideal.ofBits, Ideal.ieee]; simp [-EReal.coe_mul]; rfl⟩
  positivity

/-- Dividing by the length is multiplying by its inverse. -/
theorem div_count (x : EReal) : Ideal.div x count = x * ((1024 : ℝ)⁻¹ : ℝ) := by
  rw [count_eq, Ideal.div, if_neg (by norm_cast), ← EReal.coe_inv]

/-- A mean is finite exactly when the sum is. -/
theorem mean_isReal_iff (v : Fin 1024 → EReal) : IsReal (mean v) ↔ IsReal (∑ d, v d) := by
  unfold mean
  rw [div_count]
  constructor
  · intro h
    rw [isReal_iff] at h ⊢
    constructor <;> intro e <;> rw [e] at h
    · rw [EReal.top_mul_coe_of_pos (by positivity)] at h; simp at h
    · rw [EReal.bot_mul_coe_of_pos (by positivity)] at h; simp at h
  · intro h; exact h.mul ⟨_, rfl⟩

/-- An infinite value, squared. -/
theorem square_of_not_isReal {x : EReal} (h : ¬ IsReal x) : x * x = ⊤ := by
  rw [isReal_iff] at h
  rcases eq_or_ne x ⊤ with rfl | h1
  · simp
  · rcases eq_or_ne x ⊥ with rfl | h2
    · simp
    · exact absurd ⟨h1, h2⟩ h

/-- Anything less an infinite value is infinite. -/
theorem not_isReal_sub {x y : EReal} (h : ¬ IsReal y) : ¬ IsReal (x - y) := by
  rw [isReal_iff] at h ⊢
  rcases eq_or_ne y ⊤ with rfl | h1
  · simp
  · rcases eq_or_ne y ⊥ with rfl | h2
    · rcases eq_or_ne x ⊥ with rfl | h3
      · simp
      · rw [EReal.sub_bot h3]; simp
    · exact absurd ⟨h1, h2⟩ h

/-- Infinity, added up. -/
theorem nsmul_top {n : ℕ} (h : 0 < n) : n • (⊤ : EReal) = ⊤ := by
  obtain ⟨n, rfl⟩ := Nat.exists_eq_add_of_lt h
  induction n with
  | zero => simp
  | succ n ih => rw [show 0 + (n + 1) + 1 = (0 + n + 1) + 1 by omega, succ_nsmul, ih (by omega), EReal.top_add_top]

/-- The normalized vector is finite, whatever the vector. -/
theorem unit_isReal (v : Fin 1024 → EReal) (d : Fin 1024) : IsReal (unit v d) := by
  obtain ⟨e, he, hE⟩ := eps_pos
  unfold unit
  by_cases hm : IsReal (mean v)
  · obtain ⟨m, hM⟩ := hm
    obtain ⟨u, rfl⟩ := exists_real fun i => isReal_of_sum ((mean_isReal_iff v).1 ⟨m, hM⟩) i
    have hvar : mean (fun e => ((u e : EReal) - mean fun i => (u i : EReal)) * ((u e : EReal) - mean fun i => (u i : EReal)))
        = (((∑ i, (u i - m) * (u i - m)) * (1024 : ℝ)⁻¹ : ℝ) : EReal) := by
      rw [hM]
      conv_lhs => unfold mean
      rw [div_count, EReal.coe_mul, ← coe_sum]
      simp only [EReal.coe_mul, EReal.coe_sub]
    rw [hvar, hE, hM, ← EReal.coe_add, Ideal.rsqrt_coe]
    have hpos : 0 < (∑ i, (u i - m) * (u i - m)) * (1024 : ℝ)⁻¹ + e :=
      add_pos_of_nonneg_of_pos (mul_nonneg (Finset.sum_nonneg fun i _ => mul_self_nonneg _) (by positivity)) he
    refine IsReal.mul (IsReal.sub ⟨_, rfl⟩ ⟨_, rfl⟩) ?_
    rw [if_neg (not_lt.2 hpos.le), if_neg hpos.ne']
    exact ⟨_, rfl⟩
  · have hs : mean (fun e => (v e - mean v) * (v e - mean v)) = ⊤ := by
      simp only [square_of_not_isReal (not_isReal_sub hm)]
      unfold mean
      rw [div_count, Finset.sum_const, Finset.card_univ, Fintype.card_fin]
      rw [nsmul_top (by norm_num)]
      exact EReal.top_mul_coe_of_pos (by positivity)
    rw [hs, hE, EReal.top_add_coe]
    simp only [Ideal.rsqrt_top, mul_zero]
    exact ⟨0, by norm_cast⟩

/-- A softmax of finite logits is finite. -/
theorem soft_isReal {n : ℕ} {z : Fin n → EReal} (h : ∀ i, IsReal (z i)) (i : Fin n) : IsReal (soft z i) := by
  obtain ⟨j, -, hj⟩ := Finset.exists_mem_eq_sup Finset.univ ⟨i, Finset.mem_univ i⟩ z
  obtain ⟨u, rfl⟩ := exists_real h
  unfold soft
  rw [hj]
  simp only [← EReal.coe_sub, Ideal.exp_coe]
  rw [coe_sum, Ideal.div, if_neg, ← EReal.coe_inv]
  · exact ⟨_, (EReal.coe_mul _ _).symm⟩
  · have : 0 < ∑ x, Real.exp (u x - u j) := Finset.sum_pos (fun x _ => Real.exp_pos _) ⟨i, Finset.mem_univ i⟩
    norm_cast
    exact this.ne'

/-- The scores of finite registers with a finite query are finite. -/
theorem score_isReal {r : Fin 64 → Fin 1024 → EReal} {q : Fin 1024 → EReal} (hr : ∀ n d, IsReal (r n d))
    (hq : ∀ d, IsReal (q d)) (n : Fin 64) : IsReal (score r q n) :=
  (isReal_sum _ fun d => (hr n d).mul (hq d)).mul ⟨_, rfl⟩

/-- What the update asks of a line to stay finite: its write key, its gate and its nop probability. -/
structure Line.Ok (L : Line) : Prop where
  kw : ∀ d, IsReal (L.kw d)
  gate : IsReal L.gate
  nop : IsReal (L.p 0)

/-- What the update asks of the weights: the last layer norm's scale and shift. -/
structure Weights.Ok (P : Weights) : Prop where
  gf : ∀ d, IsReal (P.gf d)
  nf : ∀ d, IsReal (P.nf d)

variable {P : Weights} {L : Line} {r : Fin 64 → Fin 1024 → EReal}

/-- The vector that a line writes is finite, whatever the registers and the line. -/
theorem value_isReal (hP : P.Ok) (d : Fin 1024) : IsReal (value P L r d) :=
  ((unit_isReal _ d).mul (hP.gf d)).add (hP.nf d)

/-- How much a line writes to a register is finite. -/
theorem weight_isReal (hL : L.Ok) (hr : ∀ n d, IsReal (r n d)) (n : Fin 64) : IsReal (weight L r n) :=
  (soft_isReal (score_isReal hr hL.kw) n).mul (hL.gate.mul (isReal_one.sub hL.nop))

/-- The two forms of the update agree. -/
theorem kernelStep_eq_refStep (hP : P.Ok) (hL : L.Ok) (hr : ∀ n d, IsReal (r n d)) : kernelStep P L r = refStep P L r := by
  funext n d
  unfold kernelStep refStep
  obtain ⟨a, ha⟩ := hr n d
  obtain ⟨w, hw⟩ := weight_isReal hL hr n
  obtain ⟨v, hv⟩ := value_isReal (L := L) (r := r) hP d
  rw [ha, hw, hv, ← EReal.coe_one]
  simp only [← EReal.coe_add, ← EReal.coe_sub, ← EReal.coe_mul]
  exact congrArg _ (by ring)

/-- The registers stay finite. -/
theorem refStep_isReal (hP : P.Ok) (hL : L.Ok) (hr : ∀ n d, IsReal (r n d)) (n : Fin 64) (d : Fin 1024) :
    IsReal (refStep P L r n d) :=
  ((hr n d).mul (isReal_one.sub (weight_isReal hL hr n))).add ((weight_isReal hL hr n).mul (value_isReal hP d))

end Cert.Spec

end
-- ==== Proof.Inputs.lean ====
/-
  The seventeen arguments as plain functions, each batch row's lines, and the registers after the first lines by the
  kernel's update and by the reference's. From finite registers, write keys, gates, probabilities of the idle opcode and
  last normalisation, the two agree at every line.
-/
module

public import proofs.«01_k».proof.Proof.Finite

@[expose] public section

noncomputable section

namespace Cert.Spec

/-- The arguments of the problem, entry by entry. -/
structure Inputs where
  probs : Fin 256 → Fin 32 → Fin 5 → EReal
  regs : Fin 256 → Fin 64 → Fin 1024 → EReal
  kw : Fin 256 → Fin 32 → Fin 1024 → EReal
  q : Fin 256 → Fin 64 → Fin 1024 → EReal
  gate : Fin 256 → Fin 32 → EReal
  weights : Weights

namespace Inputs

variable (I : Inputs)

/-- Line `l` of batch row `b`. -/
def line (b : Fin 256) (l : Fin 32) : Line where
  p j := I.probs b l j
  q0 d := I.q b ⟨2 * l.val, by omega⟩ d
  q1 d := I.q b ⟨2 * l.val + 1, by omega⟩ d
  kw d := I.kw b l d
  gate := I.gate b l

/-- The line that step `n` runs. -/
def lineAt (b : Fin 256) (n : ℕ) : Line := I.line b ⟨n % 32, Nat.mod_lt _ (by decide)⟩

/-- Batch row `b`'s registers after `n` lines, by the kernel's update. -/
def kernelAfter (b : Fin 256) : ℕ → Fin 64 → Fin 1024 → EReal
  | 0 => I.regs b
  | n + 1 => kernelStep I.weights (I.lineAt b n) (kernelAfter b n)

/-- Batch row `b`'s registers after `n` lines, by the reference's update. -/
def refAfter (b : Fin 256) : ℕ → Fin 64 → Fin 1024 → EReal
  | 0 => I.regs b
  | n + 1 => refStep I.weights (I.lineAt b n) (refAfter b n)

/-- What the precondition says of the arguments. -/
structure Ok : Prop where
  regs : ∀ b n d, IsReal (I.regs b n d)
  line : ∀ b l, (I.line b l).Ok
  weights : I.weights.Ok

variable {I}

/-- The reference's registers stay finite. -/
theorem refAfter_isReal (h : I.Ok) (b : Fin 256) (n : ℕ) : ∀ k d, IsReal (I.refAfter b n k d) := by
  induction n with
  | zero => exact h.regs b
  | succ n ih => exact refStep_isReal h.weights (h.line b _) ih

/-- The two updates give the same registers after every line. -/
theorem kernelAfter_eq (h : I.Ok) (b : Fin 256) (n : ℕ) : I.kernelAfter b n = I.refAfter b n := by
  induction n with
  | zero => rfl
  | succ n ih =>
    show kernelStep I.weights (I.lineAt b n) (I.kernelAfter b n) = refStep I.weights (I.lineAt b n) (I.refAfter b n)
    rw [ih]
    exact kernelStep_eq_refStep h.weights (h.line b _) (refAfter_isReal h b n)

end Inputs

end Cert.Spec

end
-- ==== Proof.KernelWindows.lean ====
/-
  The blocks that a grid point is given, entry by entry, and the operands they make: point `t` runs line `t % 32` for the
  batch rows from `t / 32 * 32` on.
-/
module

public import proofs.«01_k».proof.Proof.KernelHost
public import proofs.«01_k».proof.Proof.Inputs

@[expose] public section

set_option maxRecDepth 16384

noncomputable section

open Idealize.ShloMosaic Idealize.ShloMosaic.TcCoe Idealize.ShloMosaic.Tactic Cert.Spec

namespace Cert.KernelIdeal.Windows

open Cert.KernelIdeal.Gen Cert.KernelIdeal.Block Cert.KernelIdeal.Host Cert.KernelIdeal.Point

variable (m : (ℓ : Loc nD τ sig) → Buf (Elt Ideal) ℓ) (c : Dev nD)

/-- The grid has 256 points. -/
theorem points : cfg0.N = 256 := N_0

/-- The batch row at place `b` of point `t`'s block. -/
def row (t : Fin cfg0.N) (b : Fin 32) : Fin 256 :=
  ⟨t.val / 32 * 32 + b.val, by have h : t.val < 256 := lt_of_lt_of_eq t.isLt points; omega⟩

/-- The line that point `t` runs. -/
def lineNo (t : Fin cfg0.N) : Fin 32 := ⟨t.val % 32, Nat.mod_lt _ (by decide)⟩

/-- Which block of the packed probabilities a point reads. -/
theorem index_probs : ∀ t : Fin cfg0.N, win0_0.index t 0 = t.val / 32 ∧ win0_0.index t 1 = 0 ∧ win0_0.index t 2 = 0 := by
  decide +kernel

/-- Which block of the registers a point reads. -/
theorem index_regs : ∀ t : Fin cfg0.N, win0_1.index t 0 = t.val / 32 ∧ win0_1.index t 1 = 0 ∧ win0_1.index t 2 = 0 := by
  decide +kernel

/-- Which block of the write keys a point reads. -/
theorem index_kw : ∀ t : Fin cfg0.N, win0_2.index t 0 = t.val / 32 ∧ win0_2.index t 1 = t.val % 32 ∧ win0_2.index t 2 = 0
    ∧ win0_2.index t 3 = 0 := by decide +kernel

/-- Which block of the read queries a point reads. -/
theorem index_q : ∀ t : Fin cfg0.N, win0_3.index t 0 = t.val / 32 ∧ win0_3.index t 1 = t.val % 32 ∧ win0_3.index t 2 = 0
    ∧ win0_3.index t 3 = 0 := by decide +kernel

/-- Which block of the result a point writes. -/
theorem index_out : ∀ t : Fin cfg0.N, win0_16.index t 0 = t.val / 32 ∧ win0_16.index t 1 = 0 ∧ win0_16.index t 2 = 0 := by
  decide +kernel

/-- A point's second coordinate is its line. -/
theorem coord_line : ∀ t : Fin cfg0.N, (grid0.coords t 1).val = t.val % 32 := by decide +kernel

/-- The block of packed probabilities and gates. -/
theorem probs_block (t : Fin cfg0.N) (b : Fin 32) (x : Fin 32) (y : Fin 8) :
    (iblk m c 0 t : Vec Ideal S32x32x8 .f32) (ix3 b x y) = V m c main_v1 (ix3 (row t b) x y) := by
  have hi := index_probs t
  unfold iblk
  rw [View.read_apply]
  show V m c main_v1 _ = V m c main_v1 _
  congr 1; funext a; apply Fin.ext
  match a with
  | ⟨0, _⟩ => show win0_0.index t 0 * 32 + 1 * b.val = t.val / 32 * 32 + b.val; rw [hi.1]; omega
  | ⟨1, _⟩ => show win0_0.index t 1 * 32 + 1 * x.val = x.val; rw [hi.2.1]; omega
  | ⟨2, _⟩ => show win0_0.index t 2 * 8 + 1 * y.val = y.val; rw [hi.2.2]; omega

/-- The block of given registers. -/
theorem regs_block (t : Fin cfg0.N) (b : Fin 32) (x : Fin 64) (y : Fin 1024) :
    (iblk m c 1 t : Vec Ideal S32x64x1024 .f32) (ix3 b x y) = V m c main_arg1 (ix3 (row t b) x y) := by
  have hi := index_regs t
  unfold iblk
  rw [View.read_apply]
  show V m c main_arg1 _ = V m c main_arg1 _
  congr 1; funext a; apply Fin.ext
  match a with
  | ⟨0, _⟩ => show win0_1.index t 0 * 32 + 1 * b.val = t.val / 32 * 32 + b.val; rw [hi.1]; omega
  | ⟨1, _⟩ => show win0_1.index t 1 * 64 + 1 * x.val = x.val; rw [hi.2.1]; omega
  | ⟨2, _⟩ => show win0_1.index t 2 * 1024 + 1 * y.val = y.val; rw [hi.2.2]; omega

/-- The block of write keys. -/
theorem kw_block (t : Fin cfg0.N) (b : Fin 32) (x : Fin 1) (y : Fin 1) (z : Fin 1024) :
    (iblk m c 2 t : Vec Ideal S32x1x1x1024 .f32) (ix4 b x y z) = V m c main_arg2 (ix4 (row t b) (lineNo t) y z) := by
  have hi := index_kw t
  unfold iblk
  rw [View.read_apply]
  show V m c main_arg2 _ = V m c main_arg2 _
  congr 1; funext a; apply Fin.ext
  match a with
  | ⟨0, _⟩ => show win0_2.index t 0 * 32 + 1 * b.val = t.val / 32 * 32 + b.val; rw [hi.1]; omega
  | ⟨1, _⟩ => show win0_2.index t 1 * 1 + 1 * x.val = t.val % 32; rw [hi.2.1]; omega
  | ⟨2, _⟩ => show win0_2.index t 2 * 1 + 1 * y.val = y.val; rw [hi.2.2.1]; omega
  | ⟨3, _⟩ => show win0_2.index t 3 * 1024 + 1 * z.val = z.val; rw [hi.2.2.2]; omega

/-- The block of queries. -/
theorem q_block (t : Fin cfg0.N) (b : Fin 32) (x : Fin 1) (y : Fin 2) (z : Fin 1024) :
    (iblk m c 3 t : Vec Ideal S32x1x2x1024 .f32) (ix4 b x y z) = V m c main_v2 (ix4 (row t b) (lineNo t) y z) := by
  have hi := index_q t
  unfold iblk
  rw [View.read_apply]
  show V m c main_v2 _ = V m c main_v2 _
  congr 1; funext a; apply Fin.ext
  match a with
  | ⟨0, _⟩ => show win0_3.index t 0 * 32 + 1 * b.val = t.val / 32 * 32 + b.val; rw [hi.1]; omega
  | ⟨1, _⟩ => show win0_3.index t 1 * 1 + 1 * x.val = t.val % 32; rw [hi.2.1]; omega
  | ⟨2, _⟩ => show win0_3.index t 2 * 2 + 1 * y.val = y.val; rw [hi.2.2.1]; omega
  | ⟨3, _⟩ => show win0_3.index t 3 * 1024 + 1 * z.val = z.val; rw [hi.2.2.2]; omega

/-- Window 4's block is its whole array. -/
theorem whole_4 (t : Fin cfg0.N) : (iblk m c 4 t : Vec Ideal S1024x1024 .f32) = V m c main_v5 := by
  funext j
  unfold iblk
  rw [View.read_apply]
  show V m c main_v5 _ = V m c main_v5 _
  congr 1; funext a; apply Fin.ext
  match a with
  | ⟨0, _⟩ => show 0 * 1024 + 1 * (j 0).val = (j 0).val; omega
  | ⟨1, _⟩ => show 0 * 1024 + 1 * (j 1).val = (j 1).val; omega

/-- Window 5's block is its whole array. -/
theorem whole_5 (t : Fin cfg0.N) : (iblk m c 5 t : Vec Ideal S1x1024 .f32) = V m c main_v11 := by
  funext j
  unfold iblk
  rw [View.read_apply]
  show V m c main_v11 _ = V m c main_v11 _
  congr 1; funext a; apply Fin.ext
  match a with
  | ⟨0, _⟩ => show 0 * 1 + 1 * (j 0).val = (j 0).val; omega
  | ⟨1, _⟩ => show 0 * 1024 + 1 * (j 1).val = (j 1).val; omega

/-- Window 6's block is its whole array. -/
theorem whole_6 (t : Fin cfg0.N) : (iblk m c 6 t : Vec Ideal S1024x1024 .f32) = V m c main_v8 := by
  funext j
  unfold iblk
  rw [View.read_apply]
  show V m c main_v8 _ = V m c main_v8 _
  congr 1; funext a; apply Fin.ext
  match a with
  | ⟨0, _⟩ => show 0 * 1024 + 1 * (j 0).val = (j 0).val; omega
  | ⟨1, _⟩ => show 0 * 1024 + 1 * (j 1).val = (j 1).val; omega

/-- Window 7's block is its whole array. -/
theorem whole_7 (t : Fin cfg0.N) : (iblk m c 7 t : Vec Ideal S1x1024 .f32) = V m c main_v14 := by
  funext j
  unfold iblk
  rw [View.read_apply]
  show V m c main_v14 _ = V m c main_v14 _
  congr 1; funext a; apply Fin.ext
  match a with
  | ⟨0, _⟩ => show 0 * 1 + 1 * (j 0).val = (j 0).val; omega
  | ⟨1, _⟩ => show 0 * 1024 + 1 * (j 1).val = (j 1).val; omega

/-- Window 8's block is its whole array. -/
theorem whole_8 (t : Fin cfg0.N) : (iblk m c 8 t : Vec Ideal S1024x1024 .f32) = V m c main_v17 := by
  funext j
  unfold iblk
  rw [View.read_apply]
  show V m c main_v17 _ = V m c main_v17 _
  congr 1; funext a; apply Fin.ext
  match a with
  | ⟨0, _⟩ => show 0 * 1024 + 1 * (j 0).val = (j 0).val; omega
  | ⟨1, _⟩ => show 0 * 1024 + 1 * (j 1).val = (j 1).val; omega

/-- Window 9's block is its whole array. -/
theorem whole_9 (t : Fin cfg0.N) : (iblk m c 9 t : Vec Ideal S1x1024 .f32) = V m c main_v18 := by
  funext j
  unfold iblk
  rw [View.read_apply]
  show V m c main_v18 _ = V m c main_v18 _
  congr 1; funext a; apply Fin.ext
  match a with
  | ⟨0, _⟩ => show 0 * 1 + 1 * (j 0).val = (j 0).val; omega
  | ⟨1, _⟩ => show 0 * 1024 + 1 * (j 1).val = (j 1).val; omega

/-- Window 10's block is its whole array. -/
theorem whole_10 (t : Fin cfg0.N) : (iblk m c 10 t : Vec Ideal S1x1024 .f32) = V m c main_v19 := by
  funext j
  unfold iblk
  rw [View.read_apply]
  show V m c main_v19 _ = V m c main_v19 _
  congr 1; funext a; apply Fin.ext
  match a with
  | ⟨0, _⟩ => show 0 * 1 + 1 * (j 0).val = (j 0).val; omega
  | ⟨1, _⟩ => show 0 * 1024 + 1 * (j 1).val = (j 1).val; omega

/-- Window 11's block is its whole array. -/
theorem whole_11 (t : Fin cfg0.N) : (iblk m c 11 t : Vec Ideal S1x1024 .f32) = V m c main_v20 := by
  funext j
  unfold iblk
  rw [View.read_apply]
  show V m c main_v20 _ = V m c main_v20 _
  congr 1; funext a; apply Fin.ext
  match a with
  | ⟨0, _⟩ => show 0 * 1 + 1 * (j 0).val = (j 0).val; omega
  | ⟨1, _⟩ => show 0 * 1024 + 1 * (j 1).val = (j 1).val; omega

/-- Window 12's block is its whole array. -/
theorem whole_12 (t : Fin cfg0.N) : (iblk m c 12 t : Vec Ideal S1x1024 .f32) = V m c main_v21 := by
  funext j
  unfold iblk
  rw [View.read_apply]
  show V m c main_v21 _ = V m c main_v21 _
  congr 1; funext a; apply Fin.ext
  match a with
  | ⟨0, _⟩ => show 0 * 1 + 1 * (j 0).val = (j 0).val; omega
  | ⟨1, _⟩ => show 0 * 1024 + 1 * (j 1).val = (j 1).val; omega

/-- Window 13's block is its whole array. -/
theorem whole_13 (t : Fin cfg0.N) : (iblk m c 13 t : Vec Ideal S1x1024 .f32) = V m c main_v22 := by
  funext j
  unfold iblk
  rw [View.read_apply]
  show V m c main_v22 _ = V m c main_v22 _
  congr 1; funext a; apply Fin.ext
  match a with
  | ⟨0, _⟩ => show 0 * 1 + 1 * (j 0).val = (j 0).val; omega
  | ⟨1, _⟩ => show 0 * 1024 + 1 * (j 1).val = (j 1).val; omega

/-- Window 14's block is its whole array. -/
theorem whole_14 (t : Fin cfg0.N) : (iblk m c 14 t : Vec Ideal S1x1024 .f32) = V m c main_v23 := by
  funext j
  unfold iblk
  rw [View.read_apply]
  show V m c main_v23 _ = V m c main_v23 _
  congr 1; funext a; apply Fin.ext
  match a with
  | ⟨0, _⟩ => show 0 * 1 + 1 * (j 0).val = (j 0).val; omega
  | ⟨1, _⟩ => show 0 * 1024 + 1 * (j 1).val = (j 1).val; omega

/-- Window 15's block is its whole array. -/
theorem whole_15 (t : Fin cfg0.N) : (iblk m c 15 t : Vec Ideal S1x1024 .f32) = V m c main_v24 := by
  funext j
  unfold iblk
  rw [View.read_apply]
  show V m c main_v24 _ = V m c main_v24 _
  congr 1; funext a; apply Fin.ext
  match a with
  | ⟨0, _⟩ => show 0 * 1 + 1 * (j 0).val = (j 0).val; omega
  | ⟨1, _⟩ => show 0 * 1024 + 1 * (j 1).val = (j 1).val; omega

/-- The arguments in memory, entry by entry. -/
def inputs : Inputs where
  probs b l j := m (c.tc.loc main_arg0) (ix3 b l j)
  regs b n d := m (c.tc.loc main_arg1) (ix3 b n d)
  kw b l d := m (c.tc.loc main_arg2) (ix4 b l 0 d)
  q b n d := m (c.tc.loc main_arg3) (ix3 b n d)
  gate b l := m (c.tc.loc main_arg4) (ix3 b l 0)
  weights :=
    { g1 := fun e => m (c.tc.loc main_arg5) (ix1 e)
      n1 := fun e => m (c.tc.loc main_arg6) (ix1 e)
      W1 := fun d e => m (c.tc.loc main_arg7) (ix2 d e)
      c1 := fun e => m (c.tc.loc main_arg8) (ix1 e)
      g2 := fun e => m (c.tc.loc main_arg9) (ix1 e)
      n2 := fun e => m (c.tc.loc main_arg10) (ix1 e)
      W2 := fun d e => m (c.tc.loc main_arg11) (ix2 d e)
      c2 := fun e => m (c.tc.loc main_arg12) (ix1 e)
      Wr := fun d e => m (c.tc.loc main_arg13) (ix2 d e)
      cr := fun e => m (c.tc.loc main_arg14) (ix1 e)
      gf := fun e => m (c.tc.loc main_arg15) (ix1 e)
      nf := fun e => m (c.tc.loc main_arg16) (ix1 e) }

/-- The operands of point `t`, with the registers `r`. -/
def pointOperands (t : Fin cfg0.N) (r : Vec Ideal S32x64x1024 .f32) : Operands :=
  operands (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r

/-- One line of the packed block, read at an index. -/
theorem lineOf_apply (t : Fin cfg0.N) (x : Vec Ideal S32x32x8 .f32) (b : Fin 32) (j : Fin 8) :
    lineOf (grid0.coords t) x (ix3 b 0 j) = x (ix3 b (lineNo t) j) := by
  have hc := coord_line t
  unfold lineOf View.ld
  congr 1; funext a; apply Fin.ext
  match a with
  | ⟨0, _⟩ => show 0 + 1 * b.val = b.val; omega
  | ⟨1, _⟩ =>
    show (BitVec.ofNat 32 (grid0.coords t 1).val).toNat + 1 * 0 = t.val % 32
    rw [hc, BitVec.toNat_ofNat]
    omega
  | ⟨2, _⟩ => show 0 + 1 * j.val = j.val; omega

set_option maxHeartbeats 2000000 in
/-- Point `t`'s operands are those of line `t % 32` of its batch rows. -/
theorem fits (t : Fin cfg0.N) (r : Vec Ideal S32x64x1024 .f32) (b : Fin 32) :
    Fits (pointOperands m c t r) (inputs m c).weights ((inputs m c).line (row t b) (lineNo t)) b where
  w1 d k l := (congrFun (whole_4 m c t) _).trans (w1_apply m c d k l)
  c1 k l := (congrFun (whole_5 m c t) _).trans (c1_apply m c k l)
  w2 d k l := (congrFun (whole_6 m c t) _).trans (w2_apply m c d k l)
  c2 k l := (congrFun (whole_7 m c t) _).trans (c2_apply m c k l)
  wr k l e := (congrFun (whole_8 m c t) _).trans (wr_apply m c k l e)
  cr e := (congrFun (whole_9 m c t) _).trans (cr_apply m c e)
  g1 e := (congrFun (whole_10 m c t) _).trans (g1_apply m c e)
  n1 e := (congrFun (whole_11 m c t) _).trans (n1_apply m c e)
  g2 e := (congrFun (whole_12 m c t) _).trans (g2_apply m c e)
  n2 e := (congrFun (whole_13 m c t) _).trans (n2_apply m c e)
  gf e := (congrFun (whole_14 m c t) _).trans (gf_apply m c e)
  nf e := (congrFun (whole_15 m c t) _).trans (nf_apply m c e)
  p j := (lineOf_apply t _ b _).trans ((probs_block m c t b _ _).trans (probs_apply m c _ _ j))
  gate := (lineOf_apply t _ b _).trans ((probs_block m c t b _ _).trans (gate_apply m c _ _))
  q0 d := (q_block m c t b 0 0 d).trans (q_apply m c _ _ 0 d)
  q1 d := (q_block m c t b 0 1 d).trans (q_apply m c _ _ 1 d)
  kw d := (kw_block m c t b 0 0 d).trans (congrFun (V_main_arg2 m c) _)

end Cert.KernelIdeal.Windows

end
-- ==== Proof.KernelValue.lean ====
/-
  What the kernel leaves in its result: after point `t` the block holds its batch rows' registers after lines 0 to `t % 32`,
  and the result array holds every batch row's registers after all 32 lines.
-/
module

public import proofs.«01_k».proof.Proof.KernelWindows

@[expose] public section

set_option maxRecDepth 16384

noncomputable section

open Idealize.ShloMosaic Idealize.ShloMosaic.TcCoe Idealize.ShloMosaic.Tactic Cert.Spec

namespace Cert.KernelIdeal.Whole

open Cert.KernelIdeal.Gen Cert.KernelIdeal.Block Cert.KernelIdeal.Point Cert.KernelIdeal.Windows

variable (m : (ℓ : Loc nD τ sig) → Buf (Elt Ideal) ℓ) (c : Dev nD)

/-- A point of line 0 starts from the given registers. -/
theorem at_first (t : Fin cfg0.N) (h : t.val % 32 = 0) :
    outsAt0 m c t.val t.isLt = next (pointOperands m c t (iblk m c 1 t)) := by
  rw [outsAt0_A m c t h]
  exact out_first c _ _ _ _ _ _ _ _ _ _ _ _ _ _ _ _ _ _ _ _ _ _ _ _ _ _ _ _ _ _ _ _ _ _ _ _ _ _ _ _ _ _ _ _ _ _ _ _ _ _ _ _

/-- A point of a later line starts from what the point before left. -/
theorem at_later (t : Fin cfg0.N) (h : ¬ t.val % 32 = 0) :
    outsAt0 m c t.val t.isLt =
      next (pointOperands m c t (outsAt0 m c (t.val - 1) (Nat.lt_of_le_of_lt (Nat.sub_le _ _) t.isLt))) := by
  rw [outsAt0_B m c t h]
  exact out_later c _ _ _ _ _ _ _ _ _ _ _ _ _ _ _ _ _ _ _ _ _ _ _ _ _ _ _ _ _ _ _ _ _ _ _ _ _ _ _ _ _ _ _ _ _ _ _ _ _ _ _ _ _

/-- One point, at one batch row: the kernel's update by the point's line. -/
theorem step_apply (t : Fin cfg0.N) (r : Vec Ideal S32x64x1024 .f32) (b : Fin 32) (n : Fin 64) (d : Fin 1024) :
    next (pointOperands m c t r) (ix3 b n d) =
      kernelStep (inputs m c).weights ((inputs m c).line (row t b) (lineNo t)) (regs r b) n d :=
  next_apply (fits m c t r b) n d

/-- A point's line is the line of its number modulo 32. -/
theorem line_mod (t : Fin cfg0.N) (b : Fin 256) :
    (inputs m c).line b (lineNo t) = (inputs m c).lineAt b (t.val % 32) := by
  unfold Inputs.lineAt lineNo
  congr 1
  exact Fin.ext (Nat.mod_mod _ _).symm

/-- After a point, the block holds its rows' registers after that point's line. -/
theorem after_point (t : Fin cfg0.N) (b : Fin 32) :
    regs (outsAt0 m c t.val t.isLt) b = (inputs m c).kernelAfter (row t b) (t.val % 32 + 1) := by
  obtain ⟨k, hk⟩ := t
  induction k with
  | zero =>
    funext n d
    refine (congrFun (at_first m c ⟨0, hk⟩ rfl) (ix3 b n d)).trans ((step_apply m c ⟨0, hk⟩ _ b n d).trans ?_)
    rw [line_mod]
    refine congrFun (congrFun (congrArg (kernelStep _ _) ?_) n) d
    funext n' d'
    exact (regs_block m c ⟨0, hk⟩ b n' d').trans (congrFun (V_main_arg1 m c) _)
  | succ k ih =>
    funext n d
    by_cases h : (k + 1) % 32 = 0
    · refine (congrFun (at_first m c ⟨k + 1, hk⟩ h) (ix3 b n d)).trans ((step_apply m c ⟨k + 1, hk⟩ _ b n d).trans ?_)
      rw [line_mod, show (⟨k + 1, hk⟩ : Fin cfg0.N).val % 32 = 0 from h]
      refine congrFun (congrFun (congrArg (kernelStep _ _) ?_) n) d
      funext n' d'
      exact (regs_block m c ⟨k + 1, hk⟩ b n' d').trans (congrFun (V_main_arg1 m c) _)
    · refine (congrFun (at_later m c ⟨k + 1, hk⟩ h) (ix3 b n d)).trans ((step_apply m c ⟨k + 1, hk⟩ _ b n d).trans ?_)
      rw [line_mod]
      refine congrFun (congrFun (congrArg (kernelStep _ _) ?_) n) d
      refine (ih (Nat.lt_of_succ_lt hk)).trans ?_
      have h1 : row ⟨k, Nat.lt_of_succ_lt hk⟩ b = row ⟨k + 1, hk⟩ b := by
        apply Fin.ext
        show k / 32 * 32 + b.val = (k + 1) / 32 * 32 + b.val
        omega
      have h2 : k % 32 + 1 = (k + 1) % 32 := by omega
      rw [h1]
      exact congrArg _ h2

/-- The registers after all the lines, as an array. -/
def result : Buf (Elt Ideal) ((c : Thread nD τ).loc main_v25) := fun (i : S256x64x1024.Idx) =>
  (inputs m c).kernelAfter (i 0) 32 (i 1) (i 2)

/-- What the last point of a block writes back is the block's part of the result. -/
theorem flushed_result (t : Fin cfg0.N) (hf : (cfg0.win 16).flush t = true) :
    (dats m 0 c).flushed 16 t = ((cfg0.win 16).blk t).view.read (Elt Ideal) (result m c) := by
  have h31 : t.val % 32 = 31 := (flush0_16 t).mp hf
  have hi := index_out t
  rw [Cert.KernelIdeal.Value.flushed16]
  funext j
  obtain ⟨b, n, d, rfl⟩ : ∃ (b : Fin 32) (n : Fin 64) (d : Fin 1024), j = ix3 b n d :=
    ⟨j 0, j 1, j 2, by funext a; fin_cases a <;> rfl⟩
  rw [View.read_apply]
  show regs (outsAt0 m c t.val t.isLt) b n d = result m c _
  rw [after_point, h31]
  show result m c (ix3 (row t b) n d) = result m c _
  congr 1; funext a; apply Fin.ext
  match a with
  | ⟨0, _⟩ => show t.val / 32 * 32 + b.val = win0_16.index t 0 * 32 + 1 * b.val; rw [hi.1]; omega
  | ⟨1, _⟩ => show n.val = win0_16.index t 1 * 64 + 1 * n.val; rw [hi.2.1]; omega
  | ⟨2, _⟩ => show d.val = win0_16.index t 2 * 1024 + 1 * d.val; rw [hi.2.2]; omega

/-- The result array after the launch. -/
theorem final : (dats m 0 c).arrAt 16 cfg0.N = result m c :=
  (dats m 0 c).arrAt_eq_of_cover 16 (result m c) (flushed_result m c) fun (i : S256x64x1024.Idx) => by
    have hi0 : (i 0).val < 256 := (i 0).isLt
    have hi1 : (i 1).val < 64 := (i 1).isLt
    have hi2 : (i 2).val < 1024 := (i 2).isLt
    have hb : (i 0).val / 32 * 32 + 31 < cfg0.N := by rw [points]; omega
    refine ⟨⟨(i 0).val / 32 * 32 + 31, hb⟩, (flush0_16 _).mpr (by show ((i 0).val / 32 * 32 + 31) % 32 = 31; omega), ?_⟩
    have hx := index_out ⟨(i 0).val / 32 * 32 + 31, hb⟩
    show i ∈ ((View.whole main_v25).slice (win0_16.rect ⟨(i 0).val / 32 * 32 + 31, hb⟩)).set
    rw [View.set_slice_whole, Rect.mem_set_unit]
    intro a
    match a with
    | ⟨0, _⟩ =>
      show win0_16.index _ 0 * 32 ≤ (i 0).val ∧ (i 0).val < win0_16.index _ 0 * 32 + 32
      rw [hx.1]
      show ((i 0).val / 32 * 32 + 31) / 32 * 32 ≤ (i 0).val ∧ (i 0).val < ((i 0).val / 32 * 32 + 31) / 32 * 32 + 32
      omega
    | ⟨1, _⟩ =>
      show win0_16.index _ 1 * 64 ≤ (i 1).val ∧ (i 1).val < win0_16.index _ 1 * 64 + 64
      rw [hx.2.1]; omega
    | ⟨2, _⟩ =>
      show win0_16.index _ 2 * 1024 ≤ (i 2).val ∧ (i 2).val < win0_16.index _ 2 * 1024 + 1024
      rw [hx.2.2]; omega

end Cert.KernelIdeal.Whole

end
-- ==== Proof.RefNorm.lean ====
/-
  One trip of the reference's loop, its attention and layer norms read entry by entry as the problem's mathematics.
-/
module

public import proofs.«01_k».proof.Proof.Spec
public import proofs.«01_k».proof.Proof.Gen.ReferenceIdeal.Step
public import Idealize.ShloMosaic.Lib.Pointwise

@[expose] public section

set_option maxRecDepth 16384

noncomputable section

open Idealize.ShloMosaic Idealize.ShloMosaic.TcCoe Idealize.ShloMosaic.Tactic Cert.Spec

namespace Cert.ReferenceIdeal.Trip

open Cert.ReferenceIdeal.Step

/-- The maximum of a family, taken from minus infinity twice. -/
theorem max_fold {n : ℕ} (f : Fin n → EReal) :
    max (Ideal.ofBits .f32 0xFF800000#32) (Finset.fold max (Ideal.ofBits .f32 0xFF800000#32) f Finset.univ) =
      Finset.univ.sup f := by
  rw [show Ideal.ofBits .f32 0xFF800000#32 = (⊥ : EReal) by simp [Ideal.ofBits, Ideal.ieee], max_eq_right bot_le]
  rfl

/-- The reference's scale, one over the root of 1024. -/
theorem scale_const : Ideal.div 1 (Ideal.sqrt (Ideal.ofBits .f32 0x44800000#32)) = scale := by
  rw [show Ideal.ofBits .f32 0x44800000#32 = ((1024 : ℝ) : EReal) by
    simp [Ideal.ofBits, Ideal.ieee, -EReal.coe_mul]; norm_num]
  have h : Ideal.sqrt ((1024 : ℝ) : EReal) = ((32 : ℝ) : EReal) := by
    rw [Ideal.sqrt_coe, if_neg (by norm_num), show (1024 : ℝ) = 32 * 32 by norm_num, Real.sqrt_mul_self (by norm_num)]
  rw [h, Ideal.div_coe (by norm_num), one_mul]
  rfl

/-- The scale array is 1/32 everywhere. -/
theorem scale_apply (i) : K_main_v14 (F := Ideal) i = scale := by
  unfold K_main_v14 K_main_cst_4 K_main_v13 K_main_cst_3
  pointwise
  exact scale_const

/-- The divisor of a variance is the length, which is positive. -/
theorem variance_divisor (x y : EReal) :
    (if 0 < Ideal.ofBits .f32 0x44800000#32 - FloatOps.sitofp (F := Ideal) .f32 (0#32) then
      Ideal.div x (Ideal.ofBits .f32 0x44800000#32 - FloatOps.sitofp (F := Ideal) .f32 (0#32)) else y) =
    Ideal.div x count := by
  have h0 : FloatOps.sitofp (F := Ideal) .f32 (0#32) = (0 : EReal) := by
    show (((0#32 : BitVec 32).toInt : ℝ) : EReal) = 0
    simp
  have h1 : Ideal.ofBits .f32 0x44800000#32 = ((1024 : ℝ) : EReal) := by
    simp [Ideal.ofBits, Ideal.ieee, -EReal.coe_mul]; norm_num
  rw [h0, show (Ideal.ofBits .f32 0x44800000#32 - 0 : EReal) = Ideal.ofBits .f32 0x44800000#32 from sub_zero _, if_pos]
  · rfl
  · rw [h1]
    exact_mod_cast (by norm_num : (0 : ℝ) < 1024)

variable (j : ℕ) (s : State Ideal)

/-- A batch row's registers when the trip begins. -/
def rows (b : Fin 256) (n : Fin 64) (d : Fin 1024) : EReal := s.main_v20_20 (ix3 b n d)

/-- The attention of the two queries. -/
theorem read_attn (b : Fin 256) (q : Fin 2) (n : Fin 64) :
    b34 j s (ix3 b q n) = soft (score (rows s b) (fun d => b8 j s (ix3 b q d))) n := by
  have hz : ∀ n, (∑ e, b8 j s (ix3 b q e) * s.main_v20_20 (ix3 b n e)) * K_main_v14 (F := Ideal) ix0 =
      score (rows s b) (fun d => b8 j s (ix3 b q d)) n := fun n => by
    rw [scale_apply]
    unfold score rows
    exact congrArg (· * scale) (Finset.sum_congr rfl fun _ _ => mul_comm _ _)
  unfold b34 b33 b32 b31 b30 b29 b28 b27 b26 b25 b24 b23 b22 b21 b20 b19 b18
  generalize b8 j s = x at hz ⊢
  pointwise
  simp only [hz, max_fold]
  rfl

/-- What the two queries read. -/
theorem read_apply (b : Fin 256) (q : Fin 2) (d : Fin 1024) :
    b35 j s (ix3 b q d) = recall (rows s b) (fun d => b8 j s (ix3 b q d)) d := by
  have h := read_attn j s b q
  unfold b35
  generalize b34 j s = x at h ⊢
  pointwise
  simp only [h]
  rfl

/-- The attention of the write key. -/
theorem write_attn (b : Fin 256) (n : Fin 64) :
    b248 j s (ix3 b 0 n) = soft (score (rows s b) (fun d => b13 j s (ix3 b 0 d))) n := by
  have hz : ∀ n, (∑ e, b13 j s (ix3 b 0 e) * s.main_v20_20 (ix3 b n e)) * K_main_v14 (F := Ideal) ix0 =
      score (rows s b) (fun d => b13 j s (ix3 b 0 d)) n := fun n => by
    rw [scale_apply]
    unfold score rows
    exact congrArg (· * scale) (Finset.sum_congr rfl fun _ _ => mul_comm _ _)
  unfold b248 b247 b246 b245 b244 b243 b242 b241 b240 b239 b238 b237 b236 b235 b234 b233 b232
  generalize b13 j s = x at hz ⊢
  pointwise
  simp only [hz, max_fold]
  rfl

/-- The first read of a line, as a row. -/
theorem x_row (b : Fin 256) (d : Fin 1024) : b37 j s (ix2 b d) = b35 j s (ix3 b 0 d) := by
  unfold b37 b36
  generalize b35 j s = x
  pointwise

/-- The second read of a line, as a row. -/
theorem y_row (b : Fin 256) (d : Fin 1024) : b102 j s (ix2 b d) = b35 j s (ix3 b 1 d) := by
  unfold b102 b101
  generalize b35 j s = x
  pointwise

/-- The first layer norm. -/
theorem x_norm (b : Fin 256) (d : Fin 1024) :
    b81 j s (ix2 b d) =
      norm (fun d => s.main_v20_5 (ix1 d)) (fun d => s.main_v20_6 (ix1 d)) (fun d => b37 j s (ix2 b d)) d := by
  unfold b81 b80 b79 b78 b77 b76 b75 b74 b73 b72 b71 b70 b69 b68 b67 b66 b65 b64 b63 b62 b61 b60 b59 b58 b57 b56 b55 b54 b53 b52 b51 b50 b49 b48 b47 b46 b45 b44 b43 b42 b41 b40 b39 b38
  generalize b37 j s = x
  pointwise
  simp only [variance_divisor]
  rfl

/-- The second layer norm. -/
theorem y_norm (b : Fin 256) (d : Fin 1024) :
    b146 j s (ix2 b d) =
      norm (fun d => s.main_v20_9 (ix1 d)) (fun d => s.main_v20_10 (ix1 d)) (fun d => b102 j s (ix2 b d)) d := by
  unfold b146 b145 b144 b143 b142 b141 b140 b139 b138 b137 b136 b135 b134 b133 b132 b131 b130 b129 b128 b127 b126 b125 b124 b123 b122 b121 b120 b119 b118 b117 b116 b115 b114 b113 b112 b111 b110 b109 b108 b107 b106 b105 b104 b103
  generalize b102 j s = x
  pointwise
  simp only [variance_divisor]
  rfl

/-- The last layer norm. -/
theorem v_norm (b : Fin 256) (d : Fin 1024) :
    b230 j s (ix2 b d) =
      norm (fun d => s.main_v20_17 (ix1 d)) (fun d => s.main_v20_18 (ix1 d)) (fun d => b186 j s (ix2 b d)) d := by
  unfold b230 b229 b228 b227 b226 b225 b224 b223 b222 b221 b220 b219 b218 b217 b216 b215 b214 b213 b212 b211 b210 b209 b208 b207 b206 b205 b204 b203 b202 b201 b200 b199 b198 b197 b196 b195 b194 b193 b192 b191 b190 b189 b188 b187
  generalize b186 j s = x
  pointwise
  simp only [variance_divisor]
  rfl

/-- The first dense layer. -/
theorem x_dense (b : Fin 256) (e : Fin 1024) :
    b85 j s (ix2 b e) =
      dense (fun d e => s.main_v20_7 (ix2 d e)) (fun e => s.main_v20_8 (ix1 e)) (fun d => b81 j s (ix2 b d)) e := by
  unfold b85 b84 b83 b82
  generalize b81 j s = x
  pointwise
  rfl

/-- The second dense layer. -/
theorem y_dense (b : Fin 256) (e : Fin 1024) :
    b150 j s (ix2 b e) =
      dense (fun d e => s.main_v20_11 (ix2 d e)) (fun e => s.main_v20_12 (ix1 e)) (fun d => b146 j s (ix2 b d)) e := by
  unfold b150 b149 b148 b147
  generalize b146 j s = x
  pointwise
  rfl

/-- The last dense layer. -/
theorem v_dense (b : Fin 256) (e : Fin 1024) :
    b186 j s (ix2 b e) =
      dense (fun d e => s.main_v20_15 (ix2 d e)) (fun e => s.main_v20_16 (ix1 e)) (fun d => b182 j s (ix2 b d)) e := by
  unfold b186 b185 b184 b183
  generalize b182 j s = x
  pointwise
  rfl

/-- The digits of `x`. -/
theorem x_digits (b : Fin 256) (l : Fin 64) (k : Fin 16) :
    b100 j s (ix3 b l k) = digits (fun e => b85 j s (ix2 b e)) l k := by
  unfold b100 b99 b98 b97 b96 b95 b94 b93 b92 b91 b90 b89 b88 b87 b86
  generalize b85 j s = x
  pointwise
  simp only [max_fold]
  rfl

/-- The digits of `y`. -/
theorem y_digits (b : Fin 256) (l : Fin 64) (k : Fin 16) :
    b165 j s (ix3 b l k) = digits (fun e => b150 j s (ix2 b e)) l k := by
  unfold b165 b164 b163 b162 b161 b160 b159 b158 b157 b156 b155 b154 b153 b152 b151
  generalize b150 j s = x
  pointwise
  simp only [max_fold]
  rfl

end Cert.ReferenceIdeal.Trip

end
-- ==== Proof.RefBlend.lean ====
/-
  The instructions of one trip of the reference's loop: sums and differences of digits modulo 16, and their mixture.
-/
module

public import proofs.«01_k».proof.Proof.RefNorm

@[expose] public section

set_option maxRecDepth 16384

noncomputable section

open Idealize.ShloMosaic Idealize.ShloMosaic.TcCoe Idealize.ShloMosaic.Tactic Cert.Spec

namespace Cert.ReferenceIdeal.Trip

open Cert.ReferenceIdeal.Step

/-- The comparison of the sum of two digit words modulo 16 with a third. -/
theorem sum_word : ∀ i j m : Fin 16,
    IntOp.cmpi .eq (IntOp.remsi .host (IntOp.addi (BitVec.ofNat 32 i.val) (BitVec.ofNat 32 j.val)) 16#32) (BitVec.ofNat 32 m.val) =
      if i + j = m then 1#1 else 0#1 := by
  decide +kernel

/-- The comparison of the difference of two digit words modulo 16 with a third. -/
theorem difference_word : ∀ i j m : Fin 16,
    IntOp.cmpi .eq (IntOp.remsi .host (IntOp.addi (IntOp.subi (BitVec.ofNat 32 i.val) (BitVec.ofNat 32 j.val)) 16#32) 16#32)
      (BitVec.ofNat 32 m.val) = if i - j = m then 1#1 else 0#1 := by
  decide +kernel

/-- Selecting one or zero by the word of a proposition. -/
theorem select_word (p : Prop) [Decidable p] : Scalar.select (if p then 1#1 else 0#1) (1 : EReal) 0 = if p then 1 else 0 := by
  split_ifs <;> rfl

/-- The reference's table of sums holds one where the digits add up to the outcome modulo 16. -/
theorem sum_table (i j m : Fin 16) : K_main_v7 (F := Ideal) (ix3 i j m) = if i + j = m then 1 else 0 := by
  unfold K_main_v7 K_main_v6 K_main_v5 K_main_v4 K_main_v3 K_main_v2 K_main_v1 K_main_v0 K_main_c K_main_call0_v0 K_main_call0_v1 K_main_cst K_main_cst_0
  pointwise
  rw [sum_word, select_word]

/-- The reference's table of differences likewise. -/
theorem difference_table (i j m : Fin 16) : K_main_v12 (F := Ideal) (ix3 i j m) = if i - j = m then 1 else 0 := by
  unfold K_main_v12 K_main_v11 K_main_v10 K_main_v9 K_main_v8 K_main_v3 K_main_v2 K_main_v1 K_main_v0 K_main_c K_main_call1_v0 K_main_call1_v1 K_main_cst_1 K_main_cst_2
  pointwise
  rw [difference_word, select_word]

/-- Weights summed over the pairs of digits that add up to `m`. -/
theorem plus_table (x y : Fin 64 → Fin 16 → EReal) (l : Fin 64) (m : Fin 16) :
    ∑ i, ∑ k, x l i * y l k * (if i + k = m then 1 else 0) = plus x y l m := by
  refine Finset.sum_congr rfl fun i _ => ?_
  have h : ∀ k, x l i * y l k * (if i + k = m then 1 else 0) = if k = m - i then x l i * y l k else 0 := fun k => by
    by_cases hk : k = m - i
    · rw [if_pos hk, if_pos (by rw [hk, add_sub_cancel]), mul_one]
    · rw [if_neg hk, if_neg (fun e => hk (eq_sub_of_add_eq' e)), mul_zero]
  simp only [h]
  rw [Finset.sum_ite_eq' Finset.univ (m - i), if_pos (Finset.mem_univ _)]

/-- Weights summed over the pairs of digits whose difference is `m`. -/
theorem minus_table (x y : Fin 64 → Fin 16 → EReal) (l : Fin 64) (m : Fin 16) :
    ∑ i, ∑ k, x l i * y l k * (if i - k = m then 1 else 0) = minus x y l m := by
  rw [Finset.sum_comm]
  refine Finset.sum_congr rfl fun k _ => ?_
  have h : ∀ i, x l i * y l k * (if i - k = m then 1 else 0) = if i = m + k then x l i * y l k else 0 := fun i => by
    by_cases hi : i = m + k
    · rw [if_pos hi, if_pos (by rw [hi, add_sub_cancel_right]), mul_one]
    · rw [if_neg hi, if_neg (fun e => hi (sub_eq_iff_eq_add.mp e)), mul_zero]
  simp only [h]
  rw [Finset.sum_ite_eq' Finset.univ (m + k), if_pos (Finset.mem_univ _)]

/-- Five arrays stacked along the second axis. -/
theorem stacked (z x y u w : S256x1x64x16.Idx → EReal) (h) (b : Fin 256) (n : Fin 5) (l : Fin 64) (k : Fin 16) :
    concatenate S256x5x64x16 1 [⟨S256x1x64x16, z⟩, ⟨S256x1x64x16, x⟩, ⟨S256x1x64x16, y⟩, ⟨S256x1x64x16, u⟩, ⟨S256x1x64x16, w⟩] h
        (ix4 b n l k) =
      (![z (ix4 b 0 l k), x (ix4 b 0 l k), y (ix4 b 0 l k), u (ix4 b 0 l k), w (ix4 b 0 l k)] : Fin 5 → EReal) n := by
  obtain ⟨n, hn⟩ := n
  interval_cases n
  · exact concatenate_apply_piece 1 _ h _ 0 (by simp) S256x1x64x16 z rfl rfl 0 rfl (ix4 b 0 l k)
      (fun a ha => by fin_cases a <;> first | rfl | exact absurd rfl ha) rfl
  · exact concatenate_apply_piece 1 _ h _ 1 (by simp) S256x1x64x16 x rfl rfl 1 rfl (ix4 b 0 l k)
      (fun a ha => by fin_cases a <;> first | rfl | exact absurd rfl ha) rfl
  · exact concatenate_apply_piece 1 _ h _ 2 (by simp) S256x1x64x16 y rfl rfl 2 rfl (ix4 b 0 l k)
      (fun a ha => by fin_cases a <;> first | rfl | exact absurd rfl ha) rfl
  · exact concatenate_apply_piece 1 _ h _ 3 (by simp) S256x1x64x16 u rfl rfl 3 rfl (ix4 b 0 l k)
      (fun a ha => by fin_cases a <;> first | rfl | exact absurd rfl ha) rfl
  · exact concatenate_apply_piece 1 _ h _ 4 (by simp) S256x1x64x16 w rfl rfl 4 rfl (ix4 b 0 l k)
      (fun a ha => by fin_cases a <;> first | rfl | exact absurd rfl ha) rfl

variable (j : ℕ) (s : State Ideal)

/-- The first operand's digit distributions in a batch row. -/
def xs (b : Fin 256) (l : Fin 64) (k : Fin 16) : EReal := b100 j s (ix3 b l k)

/-- The second operand's. -/
def ys (b : Fin 256) (l : Fin 64) (k : Fin 16) : EReal := b165 j s (ix3 b l k)

/-- The joint distribution of two digits at an index: the product of the two probabilities. -/
theorem products (b : Fin 256) (l : Fin 64) (i k : Fin 16) :
    b170 j s (ix4 b l i k) = xs j s b l i * ys j s b l k := by
  unfold xs ys b170 b169 b168 b167 b166
  generalize b100 j s = x
  generalize b165 j s = y
  pointwise

/-- The sums of digits. -/
theorem sums (b : Fin 256) (l : Fin 64) (m : Fin 16) : b171 j s (ix3 b l m) = plus (xs j s b) (ys j s b) l m := by
  have h := products j s
  rw [← plus_table]
  unfold b171
  generalize b170 j s = x at h ⊢
  pointwise
  simp only [h, sum_table]

/-- The differences of digits. -/
theorem differences (b : Fin 256) (l : Fin 64) (m : Fin 16) : b172 j s (ix3 b l m) = minus (xs j s b) (ys j s b) l m := by
  have h := products j s
  rw [← minus_table]
  unfold b172
  generalize b170 j s = x at h ⊢
  pointwise
  simp only [h, difference_table]

/-- The five instructions' outcomes. -/
theorem outcomes (b : Fin 256) (n : Fin 5) (l : Fin 64) (k : Fin 16) :
    b180 j s (ix4 b n l k) =
      (![0, xs j s b l k, ys j s b l k, plus (xs j s b) (ys j s b) l k, minus (xs j s b) (ys j s b) l k] : Fin 5 → EReal) n := by
  unfold b180
  rw [stacked]
  have h0 : b175 j s (ix4 b 0 l k) = 0 := by
    unfold b175 b174 b173
    pointwise
  have h1 : b176 j s (ix4 b 0 l k) = xs j s b l k := by
    unfold b176 xs
    generalize b100 j s = x
    pointwise
  have h2 : b177 j s (ix4 b 0 l k) = ys j s b l k := by
    unfold b177 ys
    generalize b165 j s = x
    pointwise
  have h3 : b178 j s (ix4 b 0 l k) = plus (xs j s b) (ys j s b) l k := by
    rw [← sums]
    unfold b178
    generalize b171 j s = x
    pointwise
  have h4 : b179 j s (ix4 b 0 l k) = minus (xs j s b) (ys j s b) l k := by
    rw [← differences]
    unfold b179
    generalize b172 j s = x
    pointwise
  rw [h0, h1, h2, h3, h4]

/-- The mixture of the outcomes. -/
theorem mixture (b : Fin 256) (l : Fin 64) (k : Fin 16) :
    b181 j s (ix3 b l k) = blend (fun n => b3 j s (ix2 b n)) (xs j s b) (ys j s b) l k := by
  have h := outcomes j s b
  unfold b181
  generalize b180 j s = x at h ⊢
  generalize b3 j s = y
  pointwise
  rw [Fin.sum_univ_five]
  simp only [h]
  show y (ix2 b 0) * 0 + _ * xs j s b l k + _ * ys j s b l k + _ * plus _ _ l k + _ * minus _ _ l k = _
  rw [mul_zero, zero_add]
  rfl

/-- The mixture, flattened to a row. -/
theorem flat (b : Fin 256) (e : Fin 1024) :
    b182 j s (ix2 b e) = b181 j s (ix3 b ⟨e.val / 16, by omega⟩ ⟨e.val % 16, by omega⟩) := by
  unfold b182
  generalize b181 j s = x
  pointwise

/-- How much the trip writes to a register. -/
theorem b257_apply (b : Fin 256) (n : Fin 64) :
    b257 j s (ix3 b 0 n) = b248 j s (ix3 b 0 n) * (b17 j s (ix2 b 0) * (1 - b3 j s (ix2 b 0))) := by
  unfold b257 b256 b255 b254 b253 b252 b251 b250 b249
  generalize b248 j s = x
  generalize b17 j s = y
  generalize b3 j s = z
  pointwise

/-- The registers after the trip. -/
theorem b267_apply (b : Fin 256) (n : Fin 64) (d : Fin 1024) :
    b267 j s (ix3 b n d) = rows s b n d * (1 - b257 j s (ix3 b 0 n)) + b257 j s (ix3 b 0 n) * b230 j s (ix2 b d) := by
  unfold b267 b266 b265 b264 b263 b262 b261 b260 b259 b258 b231
  generalize b257 j s = x
  generalize b230 j s = y
  pointwise
  rfl

end Cert.ReferenceIdeal.Trip

end
-- ==== Proof.RefTrip.lean ====
/-
  One trip of the reference's loop, and the loop: trip `j` makes the reference's update of every batch row's registers
  by line `j`.
-/
module

public import proofs.«01_k».proof.Proof.RefBlend
public import proofs.«01_k».proof.Proof.Inputs

@[expose] public section

set_option maxRecDepth 16384

noncomputable section

open Idealize.ShloMosaic Idealize.ShloMosaic.TcCoe Idealize.ShloMosaic.Tactic Cert.Spec

namespace Cert.ReferenceIdeal.Trip

open Cert.ReferenceIdeal Cert.ReferenceIdeal.Gen Cert.ReferenceIdeal.Step

/-- Where trip `j` reads an array of 32 lines. -/
def start3 (j : ℕ) : Fin 3 → Int := fun k =>
  BitVec.toInt ((![constantI S_ 32 (BitVec.ofNat 32 j), constantI S_ 32 0#32, constantI S_ 32 0#32] :
    Fin 3 → (⟨S_, .i32⟩ : BufTy).Contents (Elt Ideal)) k (Shape.Idx.first Gen.h_S_))

/-- The same for an array of four axes. -/
def start4 (j : ℕ) : Fin 4 → Int := fun k =>
  BitVec.toInt ((![constantI S_ 32 (BitVec.ofNat 32 j), constantI S_ 32 0#32, constantI S_ 32 0#32, constantI S_ 32 0#32] :
    Fin 4 → (⟨S_, .i32⟩ : BufTy).Contents (Elt Ideal)) k (Shape.Idx.first Gen.h_S_))

/-- Trip `j`'s slice of the probabilities starts at line `j`. -/
theorem start_probs : ∀ j : Fin 32,
    Host.clampedStart S32x256x5 S1x256x5 sliceFits_S32x256x5_S1x256x5.1 (start3 j.val) 0 = j.val ∧
    Host.clampedStart S32x256x5 S1x256x5 sliceFits_S32x256x5_S1x256x5.1 (start3 j.val) 1 = 0 ∧
    Host.clampedStart S32x256x5 S1x256x5 sliceFits_S32x256x5_S1x256x5.1 (start3 j.val) 2 = 0 := by
  decide +kernel

/-- Trip `j`'s slice of the read queries starts at line `j`. -/
theorem start_q : ∀ j : Fin 32,
    Host.clampedStart S32x256x2x1024 S1x256x2x1024 sliceFits_S32x256x2x1024_S1x256x2x1024.1 (start4 j.val) 0 = j.val ∧
    Host.clampedStart S32x256x2x1024 S1x256x2x1024 sliceFits_S32x256x2x1024_S1x256x2x1024.1 (start4 j.val) 1 = 0 ∧
    Host.clampedStart S32x256x2x1024 S1x256x2x1024 sliceFits_S32x256x2x1024_S1x256x2x1024.1 (start4 j.val) 2 = 0 ∧
    Host.clampedStart S32x256x2x1024 S1x256x2x1024 sliceFits_S32x256x2x1024_S1x256x2x1024.1 (start4 j.val) 3 = 0 := by
  decide +kernel

/-- Trip `j`'s slice of the write keys starts at line `j`. -/
theorem start_kw : ∀ j : Fin 32,
    Host.clampedStart S32x256x1x1024 S1x256x1x1024 sliceFits_S32x256x1x1024_S1x256x1x1024.1 (start4 j.val) 0 = j.val ∧
    Host.clampedStart S32x256x1x1024 S1x256x1x1024 sliceFits_S32x256x1x1024_S1x256x1x1024.1 (start4 j.val) 1 = 0 ∧
    Host.clampedStart S32x256x1x1024 S1x256x1x1024 sliceFits_S32x256x1x1024_S1x256x1x1024.1 (start4 j.val) 2 = 0 ∧
    Host.clampedStart S32x256x1x1024 S1x256x1x1024 sliceFits_S32x256x1x1024_S1x256x1x1024.1 (start4 j.val) 3 = 0 := by
  decide +kernel

/-- Trip `j`'s slice of the gates starts at line `j`. -/
theorem start_gate : ∀ j : Fin 32,
    Host.clampedStart S32x256x1 S1x256x1 sliceFits_S32x256x1_S1x256x1.1 (start3 j.val) 0 = j.val ∧
    Host.clampedStart S32x256x1 S1x256x1 sliceFits_S32x256x1_S1x256x1.1 (start3 j.val) 1 = 0 ∧
    Host.clampedStart S32x256x1 S1x256x1 sliceFits_S32x256x1_S1x256x1.1 (start3 j.val) 2 = 0 := by
  decide +kernel

variable (j : ℕ) (s : State Ideal)

/-- Trip `j`'s probabilities are line `j`'s. -/
theorem probs_line (hj : j < 32) (b : Fin 256) (n : Fin 5) : b3 j s (ix2 b n) = s.main_v20_0 (ix3 ⟨j, hj⟩ b n) := by
  obtain ⟨h0, h1, h2⟩ := start_probs ⟨j, hj⟩
  unfold b3 b2 b1 b0
  pointwise
  refine congrArg s.main_v20_0 (funext fun a => Fin.ext ?_)
  match a with
  | ⟨0, _⟩ => exact h0
  | ⟨1, _⟩ => exact (congrArg (· + b.val) h1).trans (Nat.zero_add _)
  | ⟨2, _⟩ => exact (congrArg (· + n.val) h2).trans (Nat.zero_add _)

/-- Trip `j`'s queries are line `j`'s. -/
theorem q_line (hj : j < 32) (b : Fin 256) (q : Fin 2) (d : Fin 1024) : b8 j s (ix3 b q d) = s.main_v20_1 (ix4 ⟨j, hj⟩ b q d) := by
  obtain ⟨h0, h1, h2, h3⟩ := start_q ⟨j, hj⟩
  unfold b8 b7 b6 b5 b4
  pointwise
  refine congrArg s.main_v20_1 (funext fun a => Fin.ext ?_)
  match a with
  | ⟨0, _⟩ => exact h0
  | ⟨1, _⟩ => exact (congrArg (· + b.val) h1).trans (Nat.zero_add _)
  | ⟨2, _⟩ => exact (congrArg (· + q.val) h2).trans (Nat.zero_add _)
  | ⟨3, _⟩ => exact (congrArg (· + d.val) h3).trans (Nat.zero_add _)

/-- Trip `j`'s write keys are line `j`'s. -/
theorem kw_line (hj : j < 32) (b : Fin 256) (d : Fin 1024) : b13 j s (ix3 b 0 d) = s.main_v20_2 (ix4 ⟨j, hj⟩ b 0 d) := by
  obtain ⟨h0, h1, h2, h3⟩ := start_kw ⟨j, hj⟩
  unfold b13 b12 b11 b10 b9
  pointwise
  refine congrArg s.main_v20_2 (funext fun a => Fin.ext ?_)
  match a with
  | ⟨0, _⟩ => exact h0
  | ⟨1, _⟩ => exact (congrArg (· + b.val) h1).trans (Nat.zero_add _)
  | ⟨2, _⟩ => exact h2
  | ⟨3, _⟩ => exact (congrArg (· + d.val) h3).trans (Nat.zero_add _)

/-- Trip `j`'s gates are line `j`'s. -/
theorem gate_line (hj : j < 32) (b : Fin 256) : b17 j s (ix2 b 0) = s.main_v20_3 (ix3 ⟨j, hj⟩ b 0) := by
  obtain ⟨h0, h1, h2⟩ := start_gate ⟨j, hj⟩
  unfold b17 b16 b15 b14
  pointwise
  refine congrArg s.main_v20_3 (funext fun a => Fin.ext ?_)
  match a with
  | ⟨0, _⟩ => exact h0
  | ⟨1, _⟩ => exact (congrArg (· + b.val) h1).trans (Nat.zero_add _)
  | ⟨2, _⟩ => exact h2

/-- The weights that the loop carries. -/
def carried : Weights where
  g1 e := s.main_v20_5 (ix1 e)
  n1 e := s.main_v20_6 (ix1 e)
  W1 d e := s.main_v20_7 (ix2 d e)
  c1 e := s.main_v20_8 (ix1 e)
  g2 e := s.main_v20_9 (ix1 e)
  n2 e := s.main_v20_10 (ix1 e)
  W2 d e := s.main_v20_11 (ix2 d e)
  c2 e := s.main_v20_12 (ix1 e)
  Wr d e := s.main_v20_15 (ix2 d e)
  cr e := s.main_v20_16 (ix1 e)
  gf e := s.main_v20_17 (ix1 e)
  nf e := s.main_v20_18 (ix1 e)

/-- Line `j` of batch row `b`, as the loop carries it. -/
def lineOf (hj : j < 32) (b : Fin 256) : Line where
  p n := s.main_v20_0 (ix3 ⟨j, hj⟩ b n)
  q0 d := s.main_v20_1 (ix4 ⟨j, hj⟩ b 0 d)
  q1 d := s.main_v20_1 (ix4 ⟨j, hj⟩ b 1 d)
  kw d := s.main_v20_2 (ix4 ⟨j, hj⟩ b 0 d)
  gate := s.main_v20_3 (ix3 ⟨j, hj⟩ b 0)

variable (hj : j < 32) (b : Fin 256)

/-- The trip's first operand: the digits of the first read. -/
theorem xs_eq : xs j s b = opX (carried s) (lineOf j s hj b) (rows s b) := by
  have h1 : (fun d => b37 j s (ix2 b d)) = recall (rows s b) (lineOf j s hj b).q0 := funext fun d => by
    rw [x_row, read_apply]
    exact congrArg (fun q => recall (rows s b) q d) (funext fun d => q_line j s hj b 0 d)
  have h2 : (fun d => b81 j s (ix2 b d)) = norm (carried s).g1 (carried s).n1 (recall (rows s b) (lineOf j s hj b).q0) :=
    funext fun d => by
      rw [x_norm, h1]
      rfl
  have h3 : (fun e => b85 j s (ix2 b e)) =
      dense (carried s).W1 (carried s).c1 (norm (carried s).g1 (carried s).n1 (recall (rows s b) (lineOf j s hj b).q0)) :=
    funext fun e => by
      rw [x_dense, h2]
      rfl
  funext l k
  unfold xs opX
  rw [x_digits, h3]

/-- The trip's second operand: the digits of the second read. -/
theorem ys_eq : ys j s b = opY (carried s) (lineOf j s hj b) (rows s b) := by
  have h1 : (fun d => b102 j s (ix2 b d)) = recall (rows s b) (lineOf j s hj b).q1 := funext fun d => by
    rw [y_row, read_apply]
    exact congrArg (fun q => recall (rows s b) q d) (funext fun d => q_line j s hj b 1 d)
  have h2 : (fun d => b146 j s (ix2 b d)) = norm (carried s).g2 (carried s).n2 (recall (rows s b) (lineOf j s hj b).q1) :=
    funext fun d => by
      rw [y_norm, h1]
      rfl
  have h3 : (fun e => b150 j s (ix2 b e)) =
      dense (carried s).W2 (carried s).c2 (norm (carried s).g2 (carried s).n2 (recall (rows s b) (lineOf j s hj b).q1)) :=
    funext fun e => by
      rw [y_dense, h2]
      rfl
  funext l k
  unfold ys opY
  rw [y_digits, h3]

/-- The vector that the trip writes. -/
theorem value_eq : (fun d => b230 j s (ix2 b d)) = value (carried s) (lineOf j s hj b) (rows s b) := by
  have h1 : (fun e => b182 j s (ix2 b e)) = outcome (carried s) (lineOf j s hj b) (rows s b) := funext fun e => by
    rw [flat, mixture, xs_eq j s hj, ys_eq j s hj]
    unfold outcome
    refine congrArg (fun p => blend p _ _ _ _) (funext fun n => probs_line j s hj b n)
  have h2 : (fun e => b186 j s (ix2 b e)) =
      dense (carried s).Wr (carried s).cr (outcome (carried s) (lineOf j s hj b) (rows s b)) := funext fun e => by
    rw [v_dense, h1]
    rfl
  funext d
  rw [v_norm, h2]
  rfl

/-- How much the trip writes to register `n`. -/
theorem weight_eq (n : Fin 64) : b257 j s (ix3 b 0 n) = weight (lineOf j s hj b) (rows s b) n := by
  rw [b257_apply, write_attn, gate_line j s hj, probs_line j s hj]
  unfold weight
  refine congrArg (fun q => soft (score (rows s b) q) n * _) (funext fun d => kw_line j s hj b d)

/-- One trip makes the reference's update of every batch row by line `j`. -/
theorem trip_rows : rows (step j s) b = refStep (carried s) (lineOf j s hj b) (rows s b) := by
  funext n d
  show b267 j s (ix3 b n d) = _
  rw [b267_apply, weight_eq j s hj]
  unfold refStep
  rw [← value_eq]

end Cert.ReferenceIdeal.Trip

end
-- ==== Proof.RefValue.lean ====
/-
  The reference's loop: after `n` trips its registers are the arguments' registers after the first `n` lines, in the
  reference's form of the update.
-/
module

public import proofs.«01_k».proof.Proof.RefTrip
public import proofs.«01_k».proof.Proof.Gen.ReferenceIdeal.StepRun

@[expose] public section

set_option maxRecDepth 16384

noncomputable section

open Idealize.ShloMosaic Idealize.ShloMosaic.TcCoe Idealize.ShloMosaic.Tactic Cert.Spec

namespace Cert.ReferenceIdeal.Trip

open Cert.ReferenceIdeal Cert.ReferenceIdeal.Gen Cert.ReferenceIdeal.Step
open Cert.ReferenceIdeal.StepRun (initState)

/-- A trip leaves the weights and the lines as they were. -/
theorem carried_step (j : ℕ) (s : State Ideal) : carried (step j s) = carried s := by
  unfold step
  rfl

/-- A trip leaves the lines as they were. -/
theorem lineOf_step (j k : ℕ) (s : State Ideal) (hj : j < 32) (b : Fin 256) : lineOf j (step k s) hj b = lineOf j s hj b := by
  unfold step
  rfl

variable (m : (ℓ : Loc nD τ sig) → Buf (Elt Ideal) ℓ) (c : Dev nD)

/-- The arguments in memory, entry by entry. -/
def inputs : Inputs where
  probs b l j := m (c.tc.loc main_arg0) (ix3 b l j)
  regs b n d := m (c.tc.loc main_arg1) (ix3 b n d)
  kw b l d := m (c.tc.loc main_arg2) (ix4 b l 0 d)
  q b n d := m (c.tc.loc main_arg3) (ix3 b n d)
  gate b l := m (c.tc.loc main_arg4) (ix3 b l 0)
  weights :=
    { g1 := fun e => m (c.tc.loc main_arg5) (ix1 e)
      n1 := fun e => m (c.tc.loc main_arg6) (ix1 e)
      W1 := fun d e => m (c.tc.loc main_arg7) (ix2 d e)
      c1 := fun e => m (c.tc.loc main_arg8) (ix1 e)
      g2 := fun e => m (c.tc.loc main_arg9) (ix1 e)
      n2 := fun e => m (c.tc.loc main_arg10) (ix1 e)
      W2 := fun d e => m (c.tc.loc main_arg11) (ix2 d e)
      c2 := fun e => m (c.tc.loc main_arg12) (ix1 e)
      Wr := fun d e => m (c.tc.loc main_arg13) (ix2 d e)
      cr := fun e => m (c.tc.loc main_arg14) (ix1 e)
      gf := fun e => m (c.tc.loc main_arg15) (ix1 e)
      nf := fun e => m (c.tc.loc main_arg16) (ix1 e) }

/-- The loop starts with the arguments' weights and registers. -/
theorem carried_init : carried (initState m c) = (inputs m c).weights := by
  unfold initState init
  rfl

/-- The loop starts with the arguments' registers. -/
theorem rows_init (b : Fin 256) : rows (initState m c) b = (inputs m c).regs b := by
  unfold initState init
  rfl

section Arrays

variable (a0 : (⟨S256x32x5, .f32⟩ : BufTy).Contents (Elt Ideal)) (a2 : (⟨S256x32x1x1024, .f32⟩ : BufTy).Contents (Elt Ideal))
  (a3 : (⟨S256x64x1024, .f32⟩ : BufTy).Contents (Elt Ideal)) (a4 : (⟨S256x32x1, .f32⟩ : BufTy).Contents (Elt Ideal))

/-- The probabilities, lines first. -/
theorem probs_first (l : Fin 32) (b : Fin 256) (n : Fin 5) : A_main_v16 a0 a2 a3 a4 (ix3 l b n) = a0 (ix3 b l n) := by
  unfold A_main_v16
  pointwise

/-- The read queries, lines first, two a line. -/
theorem queries_first (l : Fin 32) (b : Fin 256) (q : Fin 2) (d : Fin 1024) :
    A_main_v17 a0 a2 a3 a4 (ix4 l b q d) = a3 (ix3 b ⟨2 * l.val + q.val, by omega⟩ d) := by
  unfold A_main_v17 A_main_v15
  pointwise
  refine congrArg a3 (funext fun a => Fin.ext ?_)
  match a with
  | ⟨0, _⟩ => rfl
  | ⟨1, _⟩ => exact congrArg (· + q.val) (Nat.mul_comm l.val 2)
  | ⟨2, _⟩ => rfl

/-- The write keys, lines first. -/
theorem keys_first (l : Fin 32) (b : Fin 256) (d : Fin 1024) : A_main_v18 a0 a2 a3 a4 (ix4 l b 0 d) = a2 (ix4 b l 0 d) := by
  unfold A_main_v18
  pointwise

/-- The gates, lines first. -/
theorem gates_first (l : Fin 32) (b : Fin 256) : A_main_v19 a0 a2 a3 a4 (ix3 l b 0) = a4 (ix3 b l 0) := by
  unfold A_main_v19
  pointwise

end Arrays

/-- The loop starts with the arguments' lines. -/
theorem lineOf_init (j : ℕ) (hj : j < 32) (b : Fin 256) : lineOf j (initState m c) hj b = (inputs m c).line b ⟨j, hj⟩ := by
  unfold lineOf Inputs.line initState init
  congr 1
  · exact funext fun n => probs_first (m (c.tc.loc main_arg0)) (m (c.tc.loc main_arg2))
      (m (c.tc.loc main_arg3)) (m (c.tc.loc main_arg4)) ⟨j, hj⟩ b n
  · exact funext fun d => queries_first (m (c.tc.loc main_arg0)) (m (c.tc.loc main_arg2))
      (m (c.tc.loc main_arg3)) (m (c.tc.loc main_arg4)) ⟨j, hj⟩ b 0 d
  · exact funext fun d => queries_first (m (c.tc.loc main_arg0)) (m (c.tc.loc main_arg2))
      (m (c.tc.loc main_arg3)) (m (c.tc.loc main_arg4)) ⟨j, hj⟩ b 1 d
  · exact funext fun d => keys_first (m (c.tc.loc main_arg0)) (m (c.tc.loc main_arg2))
      (m (c.tc.loc main_arg3)) (m (c.tc.loc main_arg4)) ⟨j, hj⟩ b d
  · exact gates_first (m (c.tc.loc main_arg0)) (m (c.tc.loc main_arg2))
      (m (c.tc.loc main_arg3)) (m (c.tc.loc main_arg4)) ⟨j, hj⟩ b

/-- The loop's state before trip `n`. -/
def iter : ℕ → State Ideal
  | 0 => initState m c
  | n + 1 => step n (iter n)

/-- Before every trip the weights are the arguments'. -/
theorem carried_iter (n : ℕ) : carried (iter m c n) = (inputs m c).weights := by
  induction n with
  | zero => exact carried_init m c
  | succ n ih => exact (carried_step n _).trans ih

/-- Before every trip the lines are the arguments'. -/
theorem lineOf_iter (n j : ℕ) (hj : j < 32) (b : Fin 256) : lineOf j (iter m c n) hj b = (inputs m c).line b ⟨j, hj⟩ := by
  induction n with
  | zero => exact lineOf_init m c j hj b
  | succ n ih => exact (lineOf_step j n _ hj b).trans ih

/-- Before trip `n` the registers are the arguments' after the first `n` lines. -/
theorem rows_iter (n : ℕ) (hn : n ≤ 32) (b : Fin 256) : rows (iter m c n) b = (inputs m c).refAfter b n := by
  induction n with
  | zero => exact rows_init m c b
  | succ n ih =>
    have h1 : (inputs m c).lineAt b n = (inputs m c).line b ⟨n, hn⟩ := by
      unfold Inputs.lineAt
      exact congrArg _ (Fin.ext (Nat.mod_eq_of_lt hn))
    show rows (step n (iter m c n)) b = refStep (inputs m c).weights ((inputs m c).lineAt b n) ((inputs m c).refAfter b n)
    rw [trip_rows n (iter m c n) hn b, carried_iter, lineOf_iter, ih (Nat.le_of_succ_le hn), h1]

/-- The registers when the loop ends. -/
theorem final : (iter m c 32).main_v20_20 = fun (i : S256x64x1024.Idx) => (inputs m c).refAfter (i 0) 32 (i 1) (i 2) := by
  funext (i : S256x64x1024.Idx)
  refine (congrArg (iter m c 32).main_v20_20 (funext fun a => ?_)).trans
    (congrFun (congrFun (rows_iter m c 32 (Nat.le_refl _) (i 0)) (i 1)) (i 2))
  match a with
  | ⟨0, _⟩ => rfl
  | ⟨1, _⟩ => rfl
  | ⟨2, _⟩ => rfl

end Cert.ReferenceIdeal.Trip

end
-- ==== Proof.Precondition.lean ====
/-
  The precondition: what the host function asks of the arguments is that the two forms of the register update agree on
  them.
-/
module

public import proofs.«01_k».proof.Defs
public import proofs.«01_k».proof.Proof.KernelWindows

@[expose] public section

set_option maxRecDepth 16384

noncomputable section

open Idealize.ShloMosaic Idealize.ShloMosaic.TcCoe Idealize.ShloMosaic.Tactic Cert.Spec

namespace Cert.Precondition

/-- The side conditions that the precondition's operations state. -/
theorem facts : Cert.Pre_finite_registers.Facts := by
  constructor <;> decide

/-- The largest word of a 32-bit float's exponent range, with an empty fraction, is plus infinity. -/
theorem infinity_word : (FloatOps.ofBits (F := Ideal) FTy.f32 0x7F800000#32 : EReal) = ⊤ := by
  show Ideal.ofBits FTy.f32 0x7F800000#32 = ⊤
  simp [Ideal.ofBits, Ideal.ieee]

/-- An extended real whose magnitude is below plus infinity is finite. -/
theorem isReal_of_abs_lt {x : EReal} (h : max x (-x) < ⊤) : IsReal x := by
  rw [isReal_iff]
  constructor
  · rintro rfl; simp at h
  · rintro rfl; simp at h

open Cert.Pre_finite_registers in
/-- An array whose magnitudes all compare below plus infinity has finite entries. -/
theorem finite_entries {S : Shape} (hb : S_.BroadcastsInDim S (![] : Fin 0 → Fin S.rank)) (x : FVec Ideal S .f32)
    (h : cmpf .olt (Host.absf x) (broadcastInDim S ![] hb (constant S_ .f32 0x7F800000#32)) = fun _ => 1#1) (i : S.Idx) :
    IsReal (x i) := by
  have h1 : Ideal.cmp .olt (max (x i) (-(x i))) (FloatOps.ofBits (F := Ideal) FTy.f32 0x7F800000#32) = 1#1 := congrFun h i
  rw [infinity_word] at h1
  refine isReal_of_abs_lt ?_
  by_contra h2
  simp [Ideal.cmp, h2] at h1

variable (m : (ℓ : Loc Cert.KernelIdeal.nD Cert.KernelIdeal.τ Cert.KernelIdeal.sig) → Buf (Elt Ideal) ℓ)

open Cert.KernelIdeal Cert.KernelIdeal.Windows in
/-- Arguments of which the precondition holds are ones on which the two forms of the update agree. -/
theorem inputs_ok (h : Cert.Pre_KernelIdeal_finite_registers (hPre_finite_registers := facts) m) (c : Dev nD) :
    (inputs m c).Ok := by
  obtain ⟨h0, h1, h2, h4, h15, h16⟩ := h c
  refine ⟨fun b n d => ?_, fun b l => ⟨fun d => ?_, ?_, ?_⟩, ⟨fun e => ?_, fun e => ?_⟩⟩
  · exact finite_entries _ _ h1 (ix3 b n d)
  · exact finite_entries _ _ h2 (ix4 b l 0 d)
  · exact finite_entries _ _ h4 (ix3 b l 0)
  · have h3 := finite_entries _ _ h0 (ix3 b l 0)
    refine (congrArg IsReal ?_).mp h3
    refine congrArg (m (c.tc.loc main_arg0)) (funext fun a => Fin.ext ?_)
    match a with
    | ⟨0, _⟩ => exact Nat.zero_add b.val
    | ⟨1, _⟩ => exact Nat.zero_add l.val
    | ⟨2, _⟩ => rfl
  · exact finite_entries _ _ h15 (ix1 e)
  · exact finite_entries _ _ h16 (ix1 e)

end Cert.Precondition

end
-- ==== Proof.Algebraic.lean ====
/-
  The value claim: from the same finite arguments the kernel and the reference leave the same registers.
-/
module

public import proofs.«01_k».proof.Proof.KernelValue
public import proofs.«01_k».proof.Proof.RefValue
public import proofs.«01_k».proof.Proof.Precondition
public import proofs.«01_k».proof.Proof.Gen.KernelIdeal.Value

@[expose] public section

set_option maxRecDepth 16384

noncomputable section

open Idealize.ShloMosaic Idealize.SL.Sem Idealize.ShloMosaic.TcCoe Cert.Spec

namespace Cert.Proof

/-- Equal arguments are equal inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)
      ∧ m' (c.tc.loc Cert.ReferenceIdeal.main_arg7) = m (c.tc.loc Cert.KernelIdeal.main_arg7)
      ∧ m' (c.tc.loc Cert.ReferenceIdeal.main_arg8) = m (c.tc.loc Cert.KernelIdeal.main_arg8)
      ∧ m' (c.tc.loc Cert.ReferenceIdeal.main_arg9) = m (c.tc.loc Cert.KernelIdeal.main_arg9)
      ∧ m' (c.tc.loc Cert.ReferenceIdeal.main_arg10) = m (c.tc.loc Cert.KernelIdeal.main_arg10)
      ∧ m' (c.tc.loc Cert.ReferenceIdeal.main_arg11) = m (c.tc.loc Cert.KernelIdeal.main_arg11)
      ∧ m' (c.tc.loc Cert.ReferenceIdeal.main_arg12) = m (c.tc.loc Cert.KernelIdeal.main_arg12)
      ∧ m' (c.tc.loc Cert.ReferenceIdeal.main_arg13) = m (c.tc.loc Cert.KernelIdeal.main_arg13)
      ∧ m' (c.tc.loc Cert.ReferenceIdeal.main_arg14) = m (c.tc.loc Cert.KernelIdeal.main_arg14)
      ∧ m' (c.tc.loc Cert.ReferenceIdeal.main_arg15) = m (c.tc.loc Cert.KernelIdeal.main_arg15)
      ∧ m' (c.tc.loc Cert.ReferenceIdeal.main_arg16) = m (c.tc.loc Cert.KernelIdeal.main_arg16)) :
    Cert.ReferenceIdeal.Trip.inputs m' c = Cert.KernelIdeal.Windows.inputs m c := by
  obtain ⟨h0, h1, h2, h3, h4, h5, h6, h7, h8, h9, h10, h11, h12, h13, h14, h15, h16⟩ := h
  unfold Cert.ReferenceIdeal.Trip.inputs Cert.KernelIdeal.Windows.inputs
  simp only [h0, h1, h2, h3, h4, h5, h6, h7, h8, h9, h10, h11, h12, h13, h14, h15, h16]

/-- The kernel's result is the reference's, of the same arguments, when the precondition holds of them. -/
theorem algebraic : Cert.algebraic_KernelIdeal_ReferenceIdeal_pre_finite_registers
    (hKernelIdeal := Cert.KernelIdeal.Gen.facts) (hReferenceIdeal := Cert.ReferenceIdeal.Gen.facts)
    (hPre_finite_registers := Cert.Precondition.facts) := by
  intro m g m' g' hpre hargs
  refine ⟨fun c => Cert.KernelIdeal.Whole.result m c, ?_, ?_⟩
  · exact (θ_run _ _ _).mono (fun _ h c => ⟨(h c).1.trans (Cert.KernelIdeal.Whole.final m c), (h c).2⟩)
      (Cert.KernelIdeal.Value.run_blocks m g)
  · refine (θ_run _ _ _).mono (fun _ h c => ⟨(h c).1.trans ?_, (h c).2⟩)
      (Cert.ReferenceIdeal.StepRun.run_iter m' g' (Cert.ReferenceIdeal.Trip.iter m') (fun c => rfl) (fun c n => rfl))
    rw [Cert.ReferenceIdeal.Trip.final, inputs_eq m m' c (hargs c)]
    unfold Cert.KernelIdeal.Whole.result
    funext i
    exact (congrFun (congrFun (Inputs.kernelAfter_eq (Cert.Precondition.inputs_ok m hpre c) _ 32) _) _).symm

end Cert.Proof

end
-- ==== Proof.lean ====
/-
  The claims of this certificate: the frames of the kernel, its idealization and the reference, and the equality of the
  idealized kernel's and the idealized reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.StepRun
public import proofs.«01_k».proof.Proof.Algebraic
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference ends with every argument unchanged, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All the claims: the frames, with and without the precondition, and the equality of the results. -/
theorem claim : Cert.Claim := ⟨Cert.Kernel.Gen.facts, Cert.KernelIdeal.Gen.facts, Cert.ReferenceIdeal.Gen.facts,
  Cert.Precondition.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
